-- ==== Defs.lean ====
def Pre_Kernel [hPre_in_range : Cert.Pre_in_range.Facts] (m : (ℓ : Loc Cert.Kernel.nD Cert.Kernel.τ Cert.Kernel.sig) → Buf (Elt Bits) ℓ) : Prop :=
  ∀ c : Dev Cert.Kernel.nD,
    (Cert.Pre_in_range.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_in_range : Cert.Pre_in_range.Facts] (m : (ℓ : Loc Cert.KernelIdeal.nD Cert.KernelIdeal.τ Cert.KernelIdeal.sig) → Buf (Elt Ideal) ℓ) : Prop :=
  ∀ c : Dev Cert.KernelIdeal.nD,
    (Cert.Pre_in_range.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_in_range [hPre_in_range : Cert.Pre_in_range.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_in_range.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def Pre_Reference [hPre_in_range : Cert.Pre_in_range.Facts] (m : (ℓ : Loc Cert.Reference.nD Cert.Reference.τ Cert.Reference.sig) → Buf (Elt Bits) ℓ) : Prop :=
  ∀ c : Dev Cert.Reference.nD,
    (Cert.Pre_in_range.fn (F := Bits) (m ((c.tc : Thread Cert.Reference.nD Cert.Reference.τ).loc Cert.Reference.main_arg0)) (m ((c.tc : Thread Cert.Reference.nD Cert.Reference.τ).loc Cert.Reference.main_arg1))) = (fun _ => 1#1)

def quiescent_Kernel [hKernel : Cert.Kernel.Facts] [hPre_in_range : Cert.Pre_in_range.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (Cert.Kernel.threads (F := Bits)) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] [hPre_in_range : Cert.Pre_in_range.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_in_range [hReferenceIdeal : Cert.ReferenceIdeal.Facts] [hPre_in_range : Cert.Pre_in_range.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_in_range m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_Reference [hReference : Cert.Reference.Facts] [hPre_in_range : Cert.Pre_in_range.Facts] : Prop :=
  ∀ (m : (ℓ : Loc Cert.Reference.nD Cert.Reference.τ Cert.Reference.sig) → Buf (Elt Bits) ℓ) (g : Dev Cert.Reference.nD → PrngReg), Pre_Reference m →
    θ_run (Cert.Reference.defs (F := Bits)) (onTc (τ := Cert.Reference.τ) (Cert.Reference.main (F := Bits))) ⟨m, fun _ => 0, g⟩ (fun r => (∀ c : Dev Cert.Reference.nD,
      r.2.mem ((c.tc : Thread Cert.Reference.nD Cert.Reference.τ).loc Cert.Reference.main_arg0) = m ((c.tc : Thread Cert.Reference.nD Cert.Reference.τ).loc Cert.Reference.main_arg0)
      ∧ r.2.mem ((c.tc : Thread Cert.Reference.nD Cert.Reference.τ).loc Cert.Reference.main_arg1) = m ((c.tc : Thread Cert.Reference.nD Cert.Reference.τ).loc Cert.Reference.main_arg1))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] [hPre_in_range : Cert.Pre_in_range.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v4)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v4) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v0) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def bitexact_Kernel_Reference [hKernel : Cert.Kernel.Facts] [hReference : Cert.Reference.Facts] [hPre_in_range : Cert.Pre_in_range.Facts] : Prop :=
  ∀ (m : (ℓ : Loc Cert.Kernel.nD Cert.Kernel.τ Cert.Kernel.sig) → Buf (Elt Bits) ℓ) (g : Dev Cert.Kernel.nD → PrngReg)
    (m' : (ℓ : Loc Cert.Reference.nD Cert.Reference.τ Cert.Reference.sig) → Buf (Elt Bits) ℓ) (g' : Dev Cert.Reference.nD → PrngReg), Pre_Kernel m →
    (∀ c : Dev Cert.Kernel.nD,
      m' ((c.tc : Thread Cert.Reference.nD Cert.Reference.τ).loc Cert.Reference.main_arg0) = m ((c.tc : Thread Cert.Kernel.nD Cert.Kernel.τ).loc Cert.Kernel.main_arg0)
      ∧ m' ((c.tc : Thread Cert.Reference.nD Cert.Reference.τ).loc Cert.Reference.main_arg1) = m ((c.tc : Thread Cert.Kernel.nD Cert.Kernel.τ).loc Cert.Kernel.main_arg1)) →
    ∃ (v0 : (c : Dev Cert.Kernel.nD) → Buf (Elt Bits) ((c.tc : Thread Cert.Kernel.nD Cert.Kernel.τ).loc Cert.Kernel.main_v4)),
      θ_run (Cert.Kernel.defs (F := Bits)) (Cert.Kernel.threads (F := Bits)) ⟨m, fun _ => 0, g⟩ (fun r => ∀ c : Dev Cert.Kernel.nD,
          r.2.mem ((c.tc : Thread Cert.Kernel.nD Cert.Kernel.τ).loc Cert.Kernel.main_v4) = v0 c
          ∧ r.2.mem ((c.tc : Thread Cert.Kernel.nD Cert.Kernel.τ).loc Cert.Kernel.main_arg0) = m ((c.tc : Thread Cert.Kernel.nD Cert.Kernel.τ).loc Cert.Kernel.main_arg0)
          ∧ r.2.mem ((c.tc : Thread Cert.Kernel.nD Cert.Kernel.τ).loc Cert.Kernel.main_arg1) = m ((c.tc : Thread Cert.Kernel.nD Cert.Kernel.τ).loc Cert.Kernel.main_arg1))
      ∧ θ_run (Cert.Reference.defs (F := Bits)) (onTc (τ := Cert.Reference.τ) (Cert.Reference.main (F := Bits))) ⟨m', fun _ => 0, g'⟩ (fun r => ∀ c : Dev Cert.Reference.nD,
          r.2.mem ((c.tc : Thread Cert.Reference.nD Cert.Reference.τ).loc Cert.Reference.main_v0) = v0 c
          ∧ r.2.mem ((c.tc : Thread Cert.Reference.nD Cert.Reference.τ).loc Cert.Reference.main_arg0) = m' ((c.tc : Thread Cert.Reference.nD Cert.Reference.τ).loc Cert.Reference.main_arg0)
          ∧ r.2.mem ((c.tc : Thread Cert.Reference.nD Cert.Reference.τ).loc Cert.Reference.main_arg1) = m' ((c.tc : Thread Cert.Reference.nD Cert.Reference.τ).loc Cert.Reference.main_arg1))

def Claim : Prop :=
  ∃ (hKernel : Cert.Kernel.Facts) (hKernelIdeal : Cert.KernelIdeal.Facts) (hReferenceIdeal : Cert.ReferenceIdeal.Facts) (hReference : Cert.Reference.Facts) (hPre_in_range : Cert.Pre_in_range.Facts),
    quiescent_Kernel (hKernel := hKernel) (hPre_in_range := hPre_in_range)
    ∧ quiescent_KernelIdeal (hKernelIdeal := hKernelIdeal) (hPre_in_range := hPre_in_range)
    ∧ quiescent_ReferenceIdeal (hReferenceIdeal := hReferenceIdeal)
    ∧ quiescent_ReferenceIdeal_pre_in_range (hReferenceIdeal := hReferenceIdeal) (hPre_in_range := hPre_in_range)
    ∧ quiescent_Reference (hReference := hReference) (hPre_in_range := hPre_in_range)
    ∧ preserves_Kernel_KernelIdeal
    ∧ algebraic_KernelIdeal_ReferenceIdeal (hKernelIdeal := hKernelIdeal) (hReferenceIdeal := hReferenceIdeal) (hPre_in_range := hPre_in_range)
    ∧ bitexact_Kernel_Reference (hKernel := hKernel) (hReference := hReference) (hPre_in_range := hPre_in_range)
-- ==== Pre_in_range.lean ====
abbrev S4096x50 : Shape := ⟨2, ![4096, 50]⟩
abbrev S100000x128 : Shape := ⟨2, ![100000, 128]⟩
abbrev S_ : Shape := ⟨0, ![]⟩

class Facts : Prop where
  bcast_S_S4096x50 : S_.BroadcastsInDim S4096x50 (![] : Fin 0 → Fin S4096x50.rank)
  reducesTo_S4096x50_S_d0_1 : S4096x50.ReducesTo [0, 1] S_
  h_S_ : 0 < S_.numel

variable [Facts]

def fn {F : FTy → Type} [FloatOps F] (main_arg0 : IVec S4096x50 32) (main_arg1 : FVec F S100000x128 .f32) : IVec S_ 1 :=
  let main_c : IVec S_ 32 := constantI S_ 32 0#32
  let main_v0 : IVec S4096x50 32 := broadcastInDim S4096x50 ![] bcast_S_S4096x50 main_c
  let main_v1 : IVec S4096x50 1 := cmpi .sge main_arg0 main_v0
  let main_c_0 : IVec S_ 32 := constantI S_ 32 100000#32
  let main_v2 : IVec S4096x50 32 := broadcastInDim S4096x50 ![] bcast_S_S4096x50 main_c_0
  let main_v3 : IVec S4096x50 1 := cmpi .slt main_arg0 main_v2
  let main_v4 : IVec S4096x50 1 := andi main_v1 main_v3
  let main_c_1 : IVec S_ 1 := constantI S_ 1 1#1
  let main_v5 : IVec S_ 1 := (fun x v => Host.reduce IntOp.andi x v reducesTo_S4096x50_S_d0_1 h_S_) main_v4 main_c_1
  main_v5
-- ==== Kernel.lean ====
abbrev S4096x50 : Shape := ⟨2, ![4096, 50]⟩
abbrev S100000x128 : Shape := ⟨2, ![100000, 128]⟩
abbrev S50x4096 : Shape := ⟨2, ![50, 4096]⟩
abbrev S1x204800 : Shape := ⟨2, ![1, 204800]⟩
abbrev S204800x128 : Shape := ⟨2, ![204800, 128]⟩
abbrev S2 : Shape := ⟨1, ![2]⟩
abbrev S2x1x256 : Shape := ⟨3, ![2, 1, 256]⟩
abbrev S2x256x128 : Shape := ⟨3, ![2, 256, 128]⟩
abbrev S1x1x256 : Shape := ⟨3, ![1, 1, 256]⟩
abbrev S1x256 : Shape := ⟨2, ![1, 256]⟩
abbrev S1 : Shape := ⟨1, ![1]⟩
abbrev S_ : Shape := ⟨0, ![]⟩
abbrev S1x256x128 : Shape := ⟨3, ![1, 256, 128]⟩
abbrev S256x128 : Shape := ⟨2, ![256, 128]⟩
abbrev S128x128 : Shape := ⟨2, ![128, 128]⟩
abbrev S1x128 : Shape := ⟨2, ![1, 128]⟩
abbrev S128 : Shape := ⟨1, ![128]⟩
abbrev S50x4096x128 : Shape := ⟨3, ![50, 4096, 128]⟩
abbrev S4096x50x128 : Shape := ⟨3, ![4096, 50, 128]⟩

abbrev nBuf : Table → Nat
  | .hbm => 7
  | .local .scVector .vmem => 2
  | _ => 0

abbrev bufTy : (tb : Table) → Fin (nBuf tb) → BufTy
  | .hbm, ⟨0, _⟩ => ⟨S4096x50, .i32⟩
  | .hbm, ⟨1, _⟩ => ⟨S100000x128, .f32⟩
  | .hbm, ⟨2, _⟩ => ⟨S50x4096, .i32⟩
  | .hbm, ⟨3, _⟩ => ⟨S1x204800, .i32⟩
  | .hbm, ⟨4, _⟩ => ⟨S204800x128, .f32⟩
  | .hbm, ⟨5, _⟩ => ⟨S50x4096x128, .f32⟩
  | .hbm, ⟨6, _⟩ => ⟨S4096x50x128, .f32⟩
  | .local .scVector .vmem, ⟨0, _⟩ => ⟨S2x1x256, .i32⟩
  | .local .scVector .vmem, ⟨1, _⟩ => ⟨S2x256x128, .f32⟩
  | _, _ => ⟨S4096x50, .i32⟩

abbrev bufScoped : (cs : CoreSpace) → Fin (nBuf (.local .tc cs)) → Bool
  | _, _ => false

abbrev semScoped : Fin 4 → Bool
  | ⟨0, _⟩ => false
  | ⟨1, _⟩ => false
  | ⟨2, _⟩ => false
  | ⟨3, _⟩ => false
  | _ => false

abbrev dmaSemScoped : Fin 6 → Bool
  | ⟨0, _⟩ => false
  | ⟨1, _⟩ => false
  | ⟨2, _⟩ => false
  | ⟨3, _⟩ => false
  | ⟨4, _⟩ => false
  | ⟨5, _⟩ => false
  | _ => false

abbrev sig : RefSig :=
  ofTables nBuf rfl bufTy 4 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_arg1_scv : Ref sig .scVector := ⟨.hbm, 1, rfl⟩
abbrev main_v1_scv : Ref sig .scVector := ⟨.hbm, 3, rfl⟩
abbrev main_v2_scv : Ref sig .scVector := ⟨.hbm, 4, rfl⟩
abbrev cc0_scoped0 : Ref sig .scVector := ⟨.vmem, 0, rfl⟩
abbrev cc0_scoped2 : Ref sig .scVector := ⟨.vmem, 1, rfl⟩
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := ⟨2, ![2, 16], ![false, false]⟩

def k0_off1 : Fin 3 → Nat :=
  let c0_i32_13_r0 : BitVec 32 := 0#32
  let c2_i32_r0 : BitVec 32 := 2#32
  let v21_r0 : BitVec 32 := Scalar.remui c0_i32_13_r0 c2_i32_r0
  let c0_i32_14_r0 : BitVec 32 := 0#32
  let c0_i32_15_r0 : BitVec 32 := 0#32
  ![v21_r0.toNat, 0, 0]
def k0_off2 (i : grid0.Coords) : Fin 2 → Nat :=
  let c0_i32_16_r0 : BitVec 32 := 0#32
  let c256_i32_r0 : BitVec 32 := 256#32
  let c0_i32_1_r0 : BitVec 32 := 0#32
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c25_i32 : BitVec 32 := 25#32
  let v4 : BitVec 32 := Scalar.muli v3 c25_i32
  let v7_r0 : BitVec 32 := Scalar.addi c0_i32_1_r0 v4
  let v22_r0 : BitVec 32 := Scalar.muli c256_i32_r0 v7_r0
  ![0, v22_r0.toNat]
def k0_off3 : Fin 1 → Nat :=
  let c0_i32_13_r0 : BitVec 32 := 0#32
  let c2_i32_r0 : BitVec 32 := 2#32
  let v21_r0 : BitVec 32 := Scalar.remui c0_i32_13_r0 c2_i32_r0
  ![v21_r0.toNat]
@[reducible] def k0_t1_loop : Scf.Loop 32 :=
  let c0_i32_26_r0 : BitVec 32 := 0#32
  let c25_i32_27_r0 : BitVec 32 := 25#32
  let v32_r0 : BitVec 32 := Scalar.addi c0_i32_26_r0 c25_i32_27_r0
  let c1_i32_28_r0 : BitVec 32 := 1#32
  ⟨c0_i32_26_r0, v32_r0, c1_i32_28_r0⟩
def k0_off4 (arg7_r0 : BitVec 32) : Fin 3 → Nat :=
  let c2_i32_141_r0 : BitVec 32 := 2#32
  let v184_r0 : BitVec 32 := Scalar.remui arg7_r0 c2_i32_141_r0
  let c0_i32_143_r0 : BitVec 32 := 0#32
  let c0_i32_144_r0 : BitVec 32 := 0#32
  ![v184_r0.toNat, 0, 0]
def k0_cond1 (i : grid0.Coords) (k0_t1 : Fin k0_t1_loop.trips) (arg11_r0 : BitVec 32) : BitVec 1 :=
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c25_i32 : BitVec 32 := 25#32
  let v4 : BitVec 32 := Scalar.muli v3 c25_i32
  let v66_r0 : BitVec 32 := Scalar.addi arg11_r0 v4
  let true_61_r0 : BitVec 1 := 1#1
  let c1_i32_60_r0 : BitVec 32 := 1#32
  let v72_r0 : BitVec 32 := Scalar.addi arg11_r0 c1_i32_60_r0
  let v73_r0 : BitVec 32 := Scalar.select true_61_r0 v72_r0 arg11_r0
  let c25_i32_62_r0 : BitVec 32 := 25#32
  let v74_r0 : BitVec 1 := Scalar.cmpi .eq v73_r0 c25_i32_62_r0
  let c0_i32_63_r0 : BitVec 32 := 0#32
  let v75_r0 : BitVec 32 := Scalar.select v74_r0 c0_i32_63_r0 v73_r0
  let v76_r0 : BitVec 32 := Scalar.addi v75_r0 v4
  let v82_r0 : BitVec 1 := Scalar.cmpi .ne v66_r0 v76_r0
  let c0_i32_26_r0 : BitVec 32 := 0#32
  let c1_i32_28_r0 : BitVec 32 := 1#32
  let arg6_r0 : BitVec 32 := Scf.iv c0_i32_26_r0 c1_i32_28_r0 k0_t1
  let c24_i32_68_r0 : BitVec 32 := 24#32
  let v83_r0 : BitVec 1 := Scalar.cmpi .sge arg6_r0 c24_i32_68_r0
  let true_69_r0 : BitVec 1 := 1#1
  let v84_r0 : BitVec 1 := Scalar.xori v83_r0 true_69_r0
  let v85_r0 : BitVec 1 := Scalar.andi v82_r0 v84_r0
  let true_70_r0 : BitVec 1 := 1#1
  let v86_r0 : BitVec 1 := Scalar.andi v85_r0 true_70_r0
  let v87_r0 : BitVec 32 := Scalar.extui v86_r0
  let c0_i32_71_r0 : BitVec 32 := 0#32
  let v88_r0 : BitVec 1 := Scalar.cmpi .ne v87_r0 c0_i32_71_r0
  v88_r0

def k0_off5 (i : grid0.Coords) (arg11_r0 : BitVec 32) : Fin 2 → Nat :=
  let c0_i32_145_r0 : BitVec 32 := 0#32
  let c256_i32_142_r0 : BitVec 32 := 256#32
  let true_61_r0 : BitVec 1 := 1#1
  let c1_i32_60_r0 : BitVec 32 := 1#32
  let v72_r0 : BitVec 32 := Scalar.addi arg11_r0 c1_i32_60_r0
  let v73_r0 : BitVec 32 := Scalar.select true_61_r0 v72_r0 arg11_r0
  let c25_i32_62_r0 : BitVec 32 := 25#32
  let v74_r0 : BitVec 1 := Scalar.cmpi .eq v73_r0 c25_i32_62_r0
  let c0_i32_63_r0 : BitVec 32 := 0#32
  let v75_r0 : BitVec 32 := Scalar.select v74_r0 c0_i32_63_r0 v73_r0
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c25_i32 : BitVec 32 := 25#32
  let v4 : BitVec 32 := Scalar.muli v3 c25_i32
  let v76_r0 : BitVec 32 := Scalar.addi v75_r0 v4
  let v185_r0 : BitVec 32 := Scalar.muli c256_i32_142_r0 v76_r0
  ![0, v185_r0.toNat]
def k0_off6 (arg7_r0 : BitVec 32) : Fin 1 → Nat :=
  let c2_i32_141_r0 : BitVec 32 := 2#32
  let v184_r0 : BitVec 32 := Scalar.remui arg7_r0 c2_i32_141_r0
  ![v184_r0.toNat]
def k0_off7 (arg8_r0 : BitVec 32) : Fin 3 → Nat :=
  let c2_i32_142_r0 : BitVec 32 := 2#32
  let v185_r0 : BitVec 32 := Scalar.remui arg8_r0 c2_i32_142_r0
  let c0_i32_143_r0 : BitVec 32 := 0#32
  let c0_i32_144_r0 : BitVec 32 := 0#32
  ![v185_r0.toNat, 0, 0]
def k0_cond2 (i : grid0.Coords) (k0_t1 : Fin k0_t1_loop.trips) (arg11_r0 : BitVec 32) : BitVec 1 :=
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c25_i32 : BitVec 32 := 25#32
  let v4 : BitVec 32 := Scalar.muli v3 c25_i32
  let v66_r0 : BitVec 32 := Scalar.addi arg11_r0 v4
  let true_57_r0 : BitVec 1 := 1#1
  let c1_i32_56_r0 : BitVec 32 := 1#32
  let v67_r0 : BitVec 32 := Scalar.subi arg11_r0 c1_i32_56_r0
  let v68_r0 : BitVec 32 := Scalar.select true_57_r0 v67_r0 arg11_r0
  let c_m1_i32_58_r0 : BitVec 32 := 4294967295#32
  let v69_r0 : BitVec 1 := Scalar.cmpi .eq v68_r0 c_m1_i32_58_r0
  let c24_i32_59_r0 : BitVec 32 := 24#32
  let v70_r0 : BitVec 32 := Scalar.select v69_r0 c24_i32_59_r0 v68_r0
  let v71_r0 : BitVec 32 := Scalar.addi v70_r0 v4
  let v96_r0 : BitVec 1 := Scalar.cmpi .ne v66_r0 v71_r0
  let c0_i32_26_r0 : BitVec 32 := 0#32
  let c1_i32_28_r0 : BitVec 32 := 1#32
  let arg6_r0 : BitVec 32 := Scf.iv c0_i32_26_r0 c1_i32_28_r0 k0_t1
  let c0_i32_54_r0 : BitVec 32 := 0#32
  let v64_r0 : BitVec 1 := Scalar.cmpi .eq arg6_r0 c0_i32_54_r0
  let v97_r0 : BitVec 1 := Scalar.ori v96_r0 v64_r0
  let c0_i32_76_r0 : BitVec 32 := 0#32
  let v98_r0 : BitVec 1 := Scalar.cmpi .sge arg6_r0 c0_i32_76_r0
  let v99_r0 : BitVec 1 := Scalar.andi v97_r0 v98_r0
  let v100_r0 : BitVec 32 := Scalar.extui v99_r0
  let c0_i32_77_r0 : BitVec 32 := 0#32
  let v101_r0 : BitVec 1 := Scalar.cmpi .ne v100_r0 c0_i32_77_r0
  v101_r0

def k0_off8 (i : grid0.Coords) (arg11_r0 : BitVec 32) : Fin 2 → Nat :=
  let c0_i32_145_r0 : BitVec 32 := 0#32
  let c256_i32_141_r0 : BitVec 32 := 256#32
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c25_i32 : BitVec 32 := 25#32
  let v4 : BitVec 32 := Scalar.muli v3 c25_i32
  let v66_r0 : BitVec 32 := Scalar.addi arg11_r0 v4
  let v184_r0 : BitVec 32 := Scalar.muli c256_i32_141_r0 v66_r0
  ![0, v184_r0.toNat]
def k0_off9 (arg8_r0 : BitVec 32) : Fin 1 → Nat :=
  let c2_i32_142_r0 : BitVec 32 := 2#32
  let v185_r0 : BitVec 32 := Scalar.remui arg8_r0 c2_i32_142_r0
  ![v185_r0.toNat]
def k0_off10 (arg9_r0 : BitVec 32) : Fin 3 → Nat :=
  let c2_i32_81_r0 : BitVec 32 := 2#32
  let v109_r0 : BitVec 32 := Scalar.remui arg9_r0 c2_i32_81_r0
  let c0_i32_84_r0 : BitVec 32 := 0#32
  let c0_i32_85_r0 : BitVec 32 := 0#32
  ![v109_r0.toNat, 0, 0]

def k0_chk2 (arg9_r0 : BitVec 32) : Prop :=
  (∀ a, (k0_off10 arg9_r0) a + S1x256x128.size a ≤ S2x256x128.size a)
theorem k0_off10_inb : ∀ (arg9_r0 : BitVec 32) (k0_hw2 : k0_chk2 arg9_r0), ∀ a, (k0_off10 arg9_r0) a + S1x256x128.size a ≤ S2x256x128.size a := fun arg9_r0 k0_hw2 => k0_hw2

def k0_off11 (arg8_r0 : BitVec 32) : Fin 3 → Nat :=
  let c2_i32_80_r0 : BitVec 32 := 2#32
  let v108_r0 : BitVec 32 := Scalar.remui arg8_r0 c2_i32_80_r0
  let c0_i32_88_r0 : BitVec 32 := 0#32
  let c0_i32_89_r0 : BitVec 32 := 0#32
  ![v108_r0.toNat, 0, 0]

def k0_chk3 (arg8_r0 : BitVec 32) : Prop :=
  (∀ a, (k0_off11 arg8_r0) a + S1x1x256.size a ≤ S2x1x256.size a)
theorem k0_off11_inb : ∀ (arg8_r0 : BitVec 32) (k0_hw3 : k0_chk3 arg8_r0), ∀ a, (k0_off11 arg8_r0) a + S1x1x256.size a ≤ S2x1x256.size a := fun arg8_r0 k0_hw3 => k0_hw3

def k0_off12 (arg9_r0 : BitVec 32) : Fin 3 → Nat :=
  let c2_i32_141_r0 : BitVec 32 := 2#32
  let v184_r0 : BitVec 32 := Scalar.remui arg9_r0 c2_i32_141_r0
  let c0_i32_143_r0 : BitVec 32 := 0#32
  let c0_i32_144_r0 : BitVec 32 := 0#32
  ![v184_r0.toNat, 0, 0]
def k0_cond5 (i : grid0.Coords) (k0_t1 : Fin k0_t1_loop.trips) (arg11_r0 : BitVec 32) : BitVec 1 :=
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c25_i32 : BitVec 32 := 25#32
  let v4 : BitVec 32 := Scalar.muli v3 c25_i32
  let v66_r0 : BitVec 32 := Scalar.addi arg11_r0 v4
  let true_61_r0 : BitVec 1 := 1#1
  let c1_i32_60_r0 : BitVec 32 := 1#32
  let v72_r0 : BitVec 32 := Scalar.addi arg11_r0 c1_i32_60_r0
  let v73_r0 : BitVec 32 := Scalar.select true_61_r0 v72_r0 arg11_r0
  let c25_i32_62_r0 : BitVec 32 := 25#32
  let v74_r0 : BitVec 1 := Scalar.cmpi .eq v73_r0 c25_i32_62_r0
  let c0_i32_63_r0 : BitVec 32 := 0#32
  let v75_r0 : BitVec 32 := Scalar.select v74_r0 c0_i32_63_r0 v73_r0
  let v76_r0 : BitVec 32 := Scalar.addi v75_r0 v4
  let v155_r0 : BitVec 1 := Scalar.cmpi .ne v66_r0 v76_r0
  let c0_i32_26_r0 : BitVec 32 := 0#32
  let c1_i32_28_r0 : BitVec 32 := 1#32
  let arg6_r0 : BitVec 32 := Scf.iv c0_i32_26_r0 c1_i32_28_r0 k0_t1
  let c24_i32_55_r0 : BitVec 32 := 24#32
  let v65_r0 : BitVec 1 := Scalar.cmpi .eq arg6_r0 c24_i32_55_r0
  let v156_r0 : BitVec 1 := Scalar.ori v155_r0 v65_r0
  let v157_r0 : BitVec 32 := Scalar.extui v156_r0
  let c0_i32_126_r0 : BitVec 32 := 0#32
  let v158_r0 : BitVec 1 := Scalar.cmpi .ne v157_r0 c0_i32_126_r0
  v158_r0

def k0_off13 (i : grid0.Coords) (arg11_r0 : BitVec 32) : Fin 2 → Nat :=
  let c256_i32_142_r0 : BitVec 32 := 256#32
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c25_i32 : BitVec 32 := 25#32
  let v4 : BitVec 32 := Scalar.muli v3 c25_i32
  let v66_r0 : BitVec 32 := Scalar.addi arg11_r0 v4
  let v185_r0 : BitVec 32 := Scalar.muli c256_i32_142_r0 v66_r0
  let c0_i32_145_r0 : BitVec 32 := 0#32
  ![v185_r0.toNat, 0]
def k0_off14 (arg9_r0 : BitVec 32) : Fin 1 → Nat :=
  let c2_i32_141_r0 : BitVec 32 := 2#32
  let v184_r0 : BitVec 32 := Scalar.remui arg9_r0 c2_i32_141_r0
  ![v184_r0.toNat]
def k0_off15 (arg10_r0 : BitVec 32) : Fin 3 → Nat :=
  let c2_i32_141_r0 : BitVec 32 := 2#32
  let v184_r0 : BitVec 32 := Scalar.remui arg10_r0 c2_i32_141_r0
  let c0_i32_143_r0 : BitVec 32 := 0#32
  let c0_i32_144_r0 : BitVec 32 := 0#32
  ![v184_r0.toNat, 0, 0]
def k0_cond7 (i : grid0.Coords) (k0_t1 : Fin k0_t1_loop.trips) (arg11_r0 : BitVec 32) : BitVec 1 :=
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c25_i32 : BitVec 32 := 25#32
  let v4 : BitVec 32 := Scalar.muli v3 c25_i32
  let v66_r0 : BitVec 32 := Scalar.addi arg11_r0 v4
  let true_57_r0 : BitVec 1 := 1#1
  let c1_i32_56_r0 : BitVec 32 := 1#32
  let v67_r0 : BitVec 32 := Scalar.subi arg11_r0 c1_i32_56_r0
  let v68_r0 : BitVec 32 := Scalar.select true_57_r0 v67_r0 arg11_r0
  let c_m1_i32_58_r0 : BitVec 32 := 4294967295#32
  let v69_r0 : BitVec 1 := Scalar.cmpi .eq v68_r0 c_m1_i32_58_r0
  let c24_i32_59_r0 : BitVec 32 := 24#32
  let v70_r0 : BitVec 32 := Scalar.select v69_r0 c24_i32_59_r0 v68_r0
  let v71_r0 : BitVec 32 := Scalar.addi v70_r0 v4
  let v168_r0 : BitVec 1 := Scalar.cmpi .ne v66_r0 v71_r0
  let c0_i32_26_r0 : BitVec 32 := 0#32
  let c1_i32_28_r0 : BitVec 32 := 1#32
  let arg6_r0 : BitVec 32 := Scf.iv c0_i32_26_r0 c1_i32_28_r0 k0_t1
  let c0_i32_54_r0 : BitVec 32 := 0#32
  let v64_r0 : BitVec 1 := Scalar.cmpi .eq arg6_r0 c0_i32_54_r0
  let true_132_r0 : BitVec 1 := 1#1
  let v169_r0 : BitVec 1 := Scalar.xori v64_r0 true_132_r0
  let v170_r0 : BitVec 1 := Scalar.andi v168_r0 v169_r0
  let v171_r0 : BitVec 32 := Scalar.extui v170_r0
  let c0_i32_133_r0 : BitVec 32 := 0#32
  let v172_r0 : BitVec 1 := Scalar.cmpi .ne v171_r0 c0_i32_133_r0
  v172_r0

def k0_off16 (i : grid0.Coords) (arg11_r0 : BitVec 32) : Fin 2 → Nat :=
  let c256_i32_142_r0 : BitVec 32 := 256#32
  let true_57_r0 : BitVec 1 := 1#1
  let c1_i32_56_r0 : BitVec 32 := 1#32
  let v67_r0 : BitVec 32 := Scalar.subi arg11_r0 c1_i32_56_r0
  let v68_r0 : BitVec 32 := Scalar.select true_57_r0 v67_r0 arg11_r0
  let c_m1_i32_58_r0 : BitVec 32 := 4294967295#32
  let v69_r0 : BitVec 1 := Scalar.cmpi .eq v68_r0 c_m1_i32_58_r0
  let c24_i32_59_r0 : BitVec 32 := 24#32
  let v70_r0 : BitVec 32 := Scalar.select v69_r0 c24_i32_59_r0 v68_r0
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c25_i32 : BitVec 32 := 25#32
  let v4 : BitVec 32 := Scalar.muli v3 c25_i32
  let v71_r0 : BitVec 32 := Scalar.addi v70_r0 v4
  let v185_r0 : BitVec 32 := Scalar.muli c256_i32_142_r0 v71_r0
  let c0_i32_145_r0 : BitVec 32 := 0#32
  ![v185_r0.toNat, 0]
def k0_off17 (arg10_r0 : BitVec 32) : Fin 1 → Nat :=
  let c2_i32_141_r0 : BitVec 32 := 2#32
  let v184_r0 : BitVec 32 := Scalar.remui arg10_r0 c2_i32_141_r0
  ![v184_r0.toNat]

def k0_chk1 (i : grid0.Coords) (k0_t1 : Fin k0_t1_loop.trips) (arg7_r0 : BitVec 32) (arg8_r0 : BitVec 32) (arg9_r0 : BitVec 32) (arg10_r0 : BitVec 32) (arg11_r0 : BitVec 32) : Prop :=
  (∀ (k0_h1 : k0_cond1 i k0_t1 arg11_r0 = 1#1), ∀ a, (k0_off4 arg7_r0) a + S1x1x256.size a ≤ S2x1x256.size a) ∧
  (∀ (k0_h1 : k0_cond1 i k0_t1 arg11_r0 = 1#1), ∀ a, (k0_off5 i arg11_r0) a + S1x256.size a ≤ S1x204800.size a) ∧
  (∀ (k0_h1 : k0_cond1 i k0_t1 arg11_r0 = 1#1), ∀ a, (k0_off6 arg7_r0) a + S1.size a ≤ S2.size a) ∧
  (∀ (k0_h2 : k0_cond2 i k0_t1 arg11_r0 = 1#1), ∀ a, (k0_off7 arg8_r0) a + S1x1x256.size a ≤ S2x1x256.size a) ∧
  (∀ (k0_h2 : k0_cond2 i k0_t1 arg11_r0 = 1#1), ∀ a, (k0_off8 i arg11_r0) a + S1x256.size a ≤ S1x204800.size a) ∧
  (∀ (k0_h2 : k0_cond2 i k0_t1 arg11_r0 = 1#1), ∀ a, (k0_off9 arg8_r0) a + S1.size a ≤ S2.size a) ∧
  (∀ (k0_h5 : k0_cond5 i k0_t1 arg11_r0 = 1#1), ∀ a, (k0_off12 arg9_r0) a + S1x256x128.size a ≤ S2x256x128.size a) ∧
  (∀ (k0_h5 : k0_cond5 i k0_t1 arg11_r0 = 1#1), ∀ a, (k0_off13 i arg11_r0) a + S256x128.size a ≤ S204800x128.size a) ∧
  (∀ (k0_h5 : k0_cond5 i k0_t1 arg11_r0 = 1#1), ∀ a, (k0_off14 arg9_r0) a + S1.size a ≤ S2.size a) ∧
  (∀ (k0_h7 : k0_cond7 i k0_t1 arg11_r0 = 1#1), ∀ a, (k0_off15 arg10_r0) a + S1x256x128.size a ≤ S2x256x128.size a) ∧
  (∀ (k0_h7 : k0_cond7 i k0_t1 arg11_r0 = 1#1), ∀ a, (k0_off16 i arg11_r0) a + S256x128.size a ≤ S204800x128.size a) ∧
  (∀ (k0_h7 : k0_cond7 i k0_t1 arg11_r0 = 1#1), ∀ a, (k0_off17 arg10_r0) a + S1.size a ≤ S2.size a)
theorem k0_off4_inb : ∀ (i : grid0.Coords) (k0_t1 : Fin k0_t1_loop.trips) (arg7_r0 : BitVec 32) (arg8_r0 : BitVec 32) (arg9_r0 : BitVec 32) (arg10_r0 : BitVec 32) (arg11_r0 : BitVec 32) (k0_hw1 : k0_chk1 i k0_t1 arg7_r0 arg8_r0 arg9_r0 arg10_r0 arg11_r0), ∀ (k0_h1 : k0_cond1 i k0_t1 arg11_r0 = 1#1), ∀ a, (k0_off4 arg7_r0) a + S1x1x256.size a ≤ S2x1x256.size a := fun i k0_t1 arg7_r0 arg8_r0 arg9_r0 arg10_r0 arg11_r0 k0_hw1 k0_h1 => k0_hw1.1 k0_h1
theorem k0_off5_inb : ∀ (i : grid0.Coords) (k0_t1 : Fin k0_t1_loop.trips) (arg7_r0 : BitVec 32) (arg8_r0 : BitVec 32) (arg9_r0 : BitVec 32) (arg10_r0 : BitVec 32) (arg11_r0 : BitVec 32) (k0_hw1 : k0_chk1 i k0_t1 arg7_r0 arg8_r0 arg9_r0 arg10_r0 arg11_r0), ∀ (k0_h1 : k0_cond1 i k0_t1 arg11_r0 = 1#1), ∀ a, (k0_off5 i arg11_r0) a + S1x256.size a ≤ S1x204800.size a := fun i k0_t1 arg7_r0 arg8_r0 arg9_r0 arg10_r0 arg11_r0 k0_hw1 k0_h1 => k0_hw1.2.1 k0_h1
theorem k0_off6_inb : ∀ (i : grid0.Coords) (k0_t1 : Fin k0_t1_loop.trips) (arg7_r0 : BitVec 32) (arg8_r0 : BitVec 32) (arg9_r0 : BitVec 32) (arg10_r0 : BitVec 32) (arg11_r0 : BitVec 32) (k0_hw1 : k0_chk1 i k0_t1 arg7_r0 arg8_r0 arg9_r0 arg10_r0 arg11_r0), ∀ (k0_h1 : k0_cond1 i k0_t1 arg11_r0 = 1#1), ∀ a, (k0_off6 arg7_r0) a + S1.size a ≤ S2.size a := fun i k0_t1 arg7_r0 arg8_r0 arg9_r0 arg10_r0 arg11_r0 k0_hw1 k0_h1 => k0_hw1.2.2.1 k0_h1
theorem k0_off7_inb : ∀ (i : grid0.Coords) (k0_t1 : Fin k0_t1_loop.trips) (arg7_r0 : BitVec 32) (arg8_r0 : BitVec 32) (arg9_r0 : BitVec 32) (arg10_r0 : BitVec 32) (arg11_r0 : BitVec 32) (k0_hw1 : k0_chk1 i k0_t1 arg7_r0 arg8_r0 arg9_r0 arg10_r0 arg11_r0), ∀ (k0_h2 : k0_cond2 i k0_t1 arg11_r0 = 1#1), ∀ a, (k0_off7 arg8_r0) a + S1x1x256.size a ≤ S2x1x256.size a := fun i k0_t1 arg7_r0 arg8_r0 arg9_r0 arg10_r0 arg11_r0 k0_hw1 k0_h2 => k0_hw1.2.2.2.1 k0_h2
theorem k0_off8_inb : ∀ (i : grid0.Coords) (k0_t1 : Fin k0_t1_loop.trips) (arg7_r0 : BitVec 32) (arg8_r0 : BitVec 32) (arg9_r0 : BitVec 32) (arg10_r0 : BitVec 32) (arg11_r0 : BitVec 32) (k0_hw1 : k0_chk1 i k0_t1 arg7_r0 arg8_r0 arg9_r0 arg10_r0 arg11_r0), ∀ (k0_h2 : k0_cond2 i k0_t1 arg11_r0 = 1#1), ∀ a, (k0_off8 i arg11_r0) a + S1x256.size a ≤ S1x204800.size a := fun i k0_t1 arg7_r0 arg8_r0 arg9_r0 arg10_r0 arg11_r0 k0_hw1 k0_h2 => k0_hw1.2.2.2.2.1 k0_h2
theorem k0_off9_inb : ∀ (i : grid0.Coords) (k0_t1 : Fin k0_t1_loop.trips) (arg7_r0 : BitVec 32) (arg8_r0 : BitVec 32) (arg9_r0 : BitVec 32) (arg10_r0 : BitVec 32) (arg11_r0 : BitVec 32) (k0_hw1 : k0_chk1 i k0_t1 arg7_r0 arg8_r0 arg9_r0 arg10_r0 arg11_r0), ∀ (k0_h2 : k0_cond2 i k0_t1 arg11_r0 = 1#1), ∀ a, (k0_off9 arg8_r0) a + S1.size a ≤ S2.size a := fun i k0_t1 arg7_r0 arg8_r0 arg9_r0 arg10_r0 arg11_r0 k0_hw1 k0_h2 => k0_hw1.2.2.2.2.2.1 k0_h2
theorem k0_off12_inb : ∀ (i : grid0.Coords) (k0_t1 : Fin k0_t1_loop.trips) (arg7_r0 : BitVec 32) (arg8_r0 : BitVec 32) (arg9_r0 : BitVec 32) (arg10_r0 : BitVec 32) (arg11_r0 : BitVec 32) (k0_hw1 : k0_chk1 i k0_t1 arg7_r0 arg8_r0 arg9_r0 arg10_r0 arg11_r0), ∀ (k0_h5 : k0_cond5 i k0_t1 arg11_r0 = 1#1), ∀ a, (k0_off12 arg9_r0) a + S1x256x128.size a ≤ S2x256x128.size a := fun i k0_t1 arg7_r0 arg8_r0 arg9_r0 arg10_r0 arg11_r0 k0_hw1 k0_h5 => k0_hw1.2.2.2.2.2.2.1 k0_h5
theorem k0_off13_inb : ∀ (i : grid0.Coords) (k0_t1 : Fin k0_t1_loop.trips) (arg7_r0 : BitVec 32) (arg8_r0 : BitVec 32) (arg9_r0 : BitVec 32) (arg10_r0 : BitVec 32) (arg11_r0 : BitVec 32) (k0_hw1 : k0_chk1 i k0_t1 arg7_r0 arg8_r0 arg9_r0 arg10_r0 arg11_r0), ∀ (k0_h5 : k0_cond5 i k0_t1 arg11_r0 = 1#1), ∀ a, (k0_off13 i arg11_r0) a + S256x128.size a ≤ S204800x128.size a := fun i k0_t1 arg7_r0 arg8_r0 arg9_r0 arg10_r0 arg11_r0 k0_hw1 k0_h5 => k0_hw1.2.2.2.2.2.2.2.1 k0_h5
theorem k0_off14_inb : ∀ (i : grid0.Coords) (k0_t1 : Fin k0_t1_loop.trips) (arg7_r0 : BitVec 32) (arg8_r0 : BitVec 32) (arg9_r0 : BitVec 32) (arg10_r0 : BitVec 32) (arg11_r0 : BitVec 32) (k0_hw1 : k0_chk1 i k0_t1 arg7_r0 arg8_r0 arg9_r0 arg10_r0 arg11_r0), ∀ (k0_h5 : k0_cond5 i k0_t1 arg11_r0 = 1#1), ∀ a, (k0_off14 arg9_r0) a + S1.size a ≤ S2.size a := fun i k0_t1 arg7_r0 arg8_r0 arg9_r0 arg10_r0 arg11_r0 k0_hw1 k0_h5 => k0_hw1.2.2.2.2.2.2.2.2.1 k0_h5
theorem k0_off15_inb : ∀ (i : grid0.Coords) (k0_t1 : Fin k0_t1_loop.trips) (arg7_r0 : BitVec 32) (arg8_r0 : BitVec 32) (arg9_r0 : BitVec 32) (arg10_r0 : BitVec 32) (arg11_r0 : BitVec 32) (k0_hw1 : k0_chk1 i k0_t1 arg7_r0 arg8_r0 arg9_r0 arg10_r0 arg11_r0), ∀ (k0_h7 : k0_cond7 i k0_t1 arg11_r0 = 1#1), ∀ a, (k0_off15 arg10_r0) a + S1x256x128.size a ≤ S2x256x128.size a := fun i k0_t1 arg7_r0 arg8_r0 arg9_r0 arg10_r0 arg11_r0 k0_hw1 k0_h7 => k0_hw1.2.2.2.2.2.2.2.2.2.1 k0_h7
theorem k0_off16_inb : ∀ (i : grid0.Coords) (k0_t1 : Fin k0_t1_loop.trips) (arg7_r0 : BitVec 32) (arg8_r0 : BitVec 32) (arg9_r0 : BitVec 32) (arg10_r0 : BitVec 32) (arg11_r0 : BitVec 32) (k0_hw1 : k0_chk1 i k0_t1 arg7_r0 arg8_r0 arg9_r0 arg10_r0 arg11_r0), ∀ (k0_h7 : k0_cond7 i k0_t1 arg11_r0 = 1#1), ∀ a, (k0_off16 i arg11_r0) a + S256x128.size a ≤ S204800x128.size a := fun i k0_t1 arg7_r0 arg8_r0 arg9_r0 arg10_r0 arg11_r0 k0_hw1 k0_h7 => k0_hw1.2.2.2.2.2.2.2.2.2.2.1 k0_h7
theorem k0_off17_inb : ∀ (i : grid0.Coords) (k0_t1 : Fin k0_t1_loop.trips) (arg7_r0 : BitVec 32) (arg8_r0 : BitVec 32) (arg9_r0 : BitVec 32) (arg10_r0 : BitVec 32) (arg11_r0 : BitVec 32) (k0_hw1 : k0_chk1 i k0_t1 arg7_r0 arg8_r0 arg9_r0 arg10_r0 arg11_r0), ∀ (k0_h7 : k0_cond7 i k0_t1 arg11_r0 = 1#1), ∀ a, (k0_off17 arg10_r0) a + S1.size a ≤ S2.size a := fun i k0_t1 arg7_r0 arg8_r0 arg9_r0 arg10_r0 arg11_r0 k0_hw1 k0_h7 => k0_hw1.2.2.2.2.2.2.2.2.2.2.2 k0_h7

def k0_off18 (v33_3_r0 : BitVec 32) : Fin 3 → Nat :=
  let c2_i32_46_r0 : BitVec 32 := 2#32
  let v54_r0 : BitVec 32 := Scalar.remui v33_3_r0 c2_i32_46_r0
  let c0_i32_48_r0 : BitVec 32 := 0#32
  let c0_i32_49_r0 : BitVec 32 := 0#32
  ![v54_r0.toNat, 0, 0]

def k0_off19 (i : grid0.Coords) (v33_4_r0 : BitVec 32) : Fin 2 → Nat :=
  let c256_i32_47_r0 : BitVec 32 := 256#32
  let true_31_r0 : BitVec 1 := 1#1
  let c1_i32_30_r0 : BitVec 32 := 1#32
  let v34_r0 : BitVec 32 := Scalar.subi v33_4_r0 c1_i32_30_r0
  let v35_r0 : BitVec 32 := Scalar.select true_31_r0 v34_r0 v33_4_r0
  let c_m1_i32_32_r0 : BitVec 32 := 4294967295#32
  let v36_r0 : BitVec 1 := Scalar.cmpi .eq v35_r0 c_m1_i32_32_r0
  let c24_i32_33_r0 : BitVec 32 := 24#32
  let v37_r0 : BitVec 32 := Scalar.select v36_r0 c24_i32_33_r0 v35_r0
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c25_i32 : BitVec 32 := 25#32
  let v4 : BitVec 32 := Scalar.muli v3 c25_i32
  let v38_r0 : BitVec 32 := Scalar.addi v37_r0 v4
  let v55_r0 : BitVec 32 := Scalar.muli c256_i32_47_r0 v38_r0
  let c0_i32_50_r0 : BitVec 32 := 0#32
  ![v55_r0.toNat, 0]

def k0_chk5 (i : grid0.Coords) (v33_4_r0 : BitVec 32) : Prop :=
  (∀ a, (k0_off19 i v33_4_r0) a + S256x128.size a ≤ S204800x128.size a)
theorem k0_off19_inb : ∀ (i : grid0.Coords) (v33_4_r0 : BitVec 32) (k0_hw5 : k0_chk5 i v33_4_r0), ∀ a, (k0_off19 i v33_4_r0) a + S256x128.size a ≤ S204800x128.size a := fun i v33_4_r0 k0_hw5 => k0_hw5

def k0_off20 (v33_3_r0 : BitVec 32) : Fin 1 → Nat :=
  let c2_i32_46_r0 : BitVec 32 := 2#32
  let v54_r0 : BitVec 32 := Scalar.remui v33_3_r0 c2_i32_46_r0
  ![v54_r0.toNat]
def k0_off21 (v33_3_r0 : BitVec 32) : Fin 3 → Nat :=
  let c2_i32_46_r0 : BitVec 32 := 2#32
  let v54_r0 : BitVec 32 := Scalar.remui v33_3_r0 c2_i32_46_r0
  let c0_i32_52_r0 : BitVec 32 := 0#32
  let c0_i32_53_r0 : BitVec 32 := 0#32
  ![v54_r0.toNat, 0, 0]

def k0_chk4 (v33_3_r0 : BitVec 32) : Prop :=
  (∀ a, (k0_off18 v33_3_r0) a + S1x256x128.size a ≤ S2x256x128.size a) ∧
  (∀ a, (k0_off20 v33_3_r0) a + S1.size a ≤ S2.size a) ∧
  (∀ a, (k0_off21 v33_3_r0) a + S1x256x128.size a ≤ S2x256x128.size a)
theorem k0_off18_inb : ∀ (v33_3_r0 : BitVec 32) (k0_hw4 : k0_chk4 v33_3_r0), ∀ a, (k0_off18 v33_3_r0) a + S1x256x128.size a ≤ S2x256x128.size a := fun v33_3_r0 k0_hw4 => k0_hw4.1
theorem k0_off20_inb : ∀ (v33_3_r0 : BitVec 32) (k0_hw4 : k0_chk4 v33_3_r0), ∀ a, (k0_off20 v33_3_r0) a + S1.size a ≤ S2.size a := fun v33_3_r0 k0_hw4 => k0_hw4.2.1
theorem k0_off21_inb : ∀ (v33_3_r0 : BitVec 32) (k0_hw4 : k0_chk4 v33_3_r0), ∀ a, (k0_off21 v33_3_r0) a + S1x256x128.size a ≤ S2x256x128.size a := fun v33_3_r0 k0_hw4 => k0_hw4.2.2

abbrev scKind : Fin 1 → Kind := fun | 0 => .scVector | ⟨_ + 1, h⟩ => absurd h (Nat.not_lt.2 (Nat.le_add_left _ _))
abbrev scNCore : Fin 1 → Nat := fun | 0 => 2 | ⟨_ + 1, h⟩ => absurd h (Nat.not_lt.2 (Nat.le_add_left _ _))
abbrev scNSub : Fin 1 → Nat := fun | 0 => 16 | ⟨_ + 1, h⟩ => absurd h (Nat.not_lt.2 (Nat.le_add_left _ _))
-- ==== Reference.lean ====
abbrev S4096x50 : Shape := ⟨2, ![4096, 50]⟩
abbrev S100000x128 : Shape := ⟨2, ![100000, 128]⟩
abbrev S_ : Shape := ⟨0, ![]⟩
abbrev S4096x50x1 : Shape := ⟨3, ![4096, 50, 1]⟩
abbrev S1 : Shape := ⟨1, ![1]⟩
abbrev S1x1x1 : Shape := ⟨3, ![1, 1, 1]⟩
abbrev S4096x50x128 : Shape := ⟨3, ![4096, 50, 128]⟩

abbrev nBuf : Space → Nat
  | .hbm => 25
  | .vmem => 0
  | .smem => 0
  | _ => 0

abbrev bufTy : (tb : Table) → Fin (tcTables nBuf tb) → BufTy
  | .hbm, ⟨0, _⟩ => ⟨S4096x50, .i32⟩
  | .hbm, ⟨1, _⟩ => ⟨S100000x128, .f32⟩
  | .hbm, ⟨2, _⟩ => ⟨S_, .i32⟩
  | .hbm, ⟨3, _⟩ => ⟨S4096x50, .i32⟩
  | .hbm, ⟨4, _⟩ => ⟨S4096x50, .i1⟩
  | .hbm, ⟨5, _⟩ => ⟨S_, .i32⟩
  | .hbm, ⟨6, _⟩ => ⟨S4096x50, .i32⟩
  | .hbm, ⟨7, _⟩ => ⟨S4096x50, .i32⟩
  | .hbm, ⟨8, _⟩ => ⟨S4096x50, .i32⟩
  | .hbm, ⟨9, _⟩ => ⟨S4096x50x1, .i32⟩
  | .hbm, ⟨10, _⟩ => ⟨S1, .i32⟩
  | .hbm, ⟨11, _⟩ => ⟨S_, .i32⟩
  | .hbm, ⟨12, _⟩ => ⟨S4096x50x1, .i32⟩
  | .hbm, ⟨13, _⟩ => ⟨S4096x50x1, .i1⟩
  | .hbm, ⟨14, _⟩ => ⟨S1x1x1, .i32⟩
  | .hbm, ⟨15, _⟩ => ⟨S4096x50x1, .i32⟩
  | .hbm, ⟨16, _⟩ => ⟨S4096x50x1, .i1⟩
  | .hbm, ⟨17, _⟩ => ⟨S4096x50x1, .i1⟩
  | .hbm, ⟨18, _⟩ => ⟨S_, .i1⟩
  | .hbm, ⟨19, _⟩ => ⟨S4096x50, .i1⟩
  | .hbm, ⟨20, _⟩ => ⟨S4096x50x128, .f32⟩
  | .hbm, ⟨21, _⟩ => ⟨S4096x50x128, .i1⟩
  | .hbm, ⟨22, _⟩ => ⟨S_, .f32⟩
  | .hbm, ⟨23, _⟩ => ⟨S4096x50x128, .f32⟩
  | .hbm, ⟨24, _⟩ => ⟨S4096x50x128, .f32⟩
  | _, _ => ⟨S4096x50, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_call0_c : Ref sig .tc := ⟨.hbm, 2, rfl⟩
abbrev main_call0_v0 : Ref sig .tc := ⟨.hbm, 3, rfl⟩
abbrev main_call0_v1 : Ref sig .tc := ⟨.hbm, 4, rfl⟩
abbrev main_call0_c_0 : Ref sig .tc := ⟨.hbm, 5, rfl⟩
abbrev main_call0_v2 : Ref sig .tc := ⟨.hbm, 6, rfl⟩
abbrev main_call0_v3 : Ref sig .tc := ⟨.hbm, 7, rfl⟩
abbrev main_call0_v4 : Ref sig .tc := ⟨.hbm, 8, rfl⟩
abbrev main_call0_v5 : Ref sig .tc := ⟨.hbm, 9, rfl⟩
abbrev main_call0_c_1 : Ref sig .tc := ⟨.hbm, 10, rfl⟩
abbrev main_call0_c_2 : Ref sig .tc := ⟨.hbm, 11, rfl⟩
abbrev main_call0_v6 : Ref sig .tc := ⟨.hbm, 12, rfl⟩
abbrev main_call0_v7 : Ref sig .tc := ⟨.hbm, 13, rfl⟩
abbrev main_call0_v8 : Ref sig .tc := ⟨.hbm, 14, rfl⟩
abbrev main_call0_v9 : Ref sig .tc := ⟨.hbm, 15, rfl⟩
abbrev main_call0_v10 : Ref sig .tc := ⟨.hbm, 16, rfl⟩
abbrev main_call0_v11 : Ref sig .tc := ⟨.hbm, 17, rfl⟩
abbrev main_call0_c_3 : Ref sig .tc := ⟨.hbm, 18, rfl⟩
abbrev main_call0_v12 : Ref sig .tc := ⟨.hbm, 19, rfl⟩
abbrev main_call0_v13 : Ref sig .tc := ⟨.hbm, 20, rfl⟩
abbrev main_call0_v14 : Ref sig .tc := ⟨.hbm, 21, rfl⟩
abbrev main_call0_cst : Ref sig .tc := ⟨.hbm, 22, rfl⟩
abbrev main_call0_v15 : Ref sig .tc := ⟨.hbm, 23, rfl⟩
abbrev main_v0 : Ref sig .tc := ⟨.hbm, 24, rfl⟩

abbrev nD : Nat := 1
abbrev τ : Topo := Topo.v7x

variable {F : FTy → Type} [FloatOps F]
-- ==== Proof.Words.lean ====
/-
  The kernel's integer words: what the loop carries at each trip, and what the offsets, the conditions and the side
  conditions are at those words. Everything is over one (core, subcore) pair and one trip, decided over all of them.
-/
module

public import proofs.«01_k».proof.Proof.Gen.KernelIdeal.Skeleton

@[expose] public section

namespace Cert.KernelIdeal.Gather

open Idealize.ShloMosaic Cert.KernelIdeal Cert.KernelIdeal.Gen

/-- The first of the 25 blocks of 256 lookups that the vector subcore at `i` handles, counted over the whole device. -/
def firstBlk (i : grid0.Coords) : Nat := 25 * (16 * (i 0).val + (i 1).val)

/-- The word the body adds to its own block number. -/
def baseW (i : grid0.Coords) : BitVec 32 :=
  Scalar.muli (Scalar.addi (Scalar.addi 0#32 (Scalar.muli (BitVec.ofNat 32 (i 1).val) 1#32))
    (Scalar.muli (BitVec.ofNat 32 (i 0).val) 16#32)) 25#32

/-- How many index blocks have been asked for before trip `t`: one ahead of the trip, never more than all 25. -/
def askedW (t : Nat) : BitVec 32 := BitVec.ofNat 32 (min (t + 1) 25)
/-- How many index blocks have been used before trip `t`; also how many row blocks have been filled. -/
def usedW (t : Nat) : BitVec 32 := BitVec.ofNat 32 t
/-- How many row blocks are known to be written out before trip `t`. -/
def doneW (t : Nat) : BitVec 32 := BitVec.ofNat 32 (t - 1)
/-- The block the trip works on, wrapped to zero after the last. -/
def curW (t : Nat) : BitVec 32 := BitVec.ofNat 32 (t % 25)

/-- The five words the loop carries into trip `t`. -/
def accAt (t : Nat) : BitVec 32 × BitVec 32 × BitVec 32 × BitVec 32 × BitVec 32 :=
  (askedW t, usedW t, usedW t, doneW t, curW t)

/-- The words the body yields from the words it is given, as the program computes them. -/
def nextAcc (i : grid0.Coords) (k : Fin k0_t1_loop.trips) (v4 a7 a8 a9 a10 a11 : BitVec 32) :
    BitVec 32 × BitVec 32 × BitVec 32 × BitVec 32 × BitVec 32 :=
  let arg6 : BitVec 32 := Scf.iv 0#32 1#32 k
  let v64 : BitVec 1 := Scalar.cmpi .eq arg6 0#32
  let v65 : BitVec 1 := Scalar.cmpi .eq arg6 24#32
  let v66 : BitVec 32 := Scalar.addi a11 v4
  let v67 : BitVec 32 := Scalar.subi a11 1#32
  let v68 : BitVec 32 := Scalar.select 1#1 v67 a11
  let v69 : BitVec 1 := Scalar.cmpi .eq v68 4294967295#32
  let v70 : BitVec 32 := Scalar.select v69 24#32 v68
  let v71 : BitVec 32 := Scalar.addi v70 v4
  let v72 : BitVec 32 := Scalar.addi a11 1#32
  let v73 : BitVec 32 := Scalar.select 1#1 v72 a11
  let v74 : BitVec 1 := Scalar.cmpi .eq v73 25#32
  let v75 : BitVec 32 := Scalar.select v74 0#32 v73
  let v76 : BitVec 32 := Scalar.addi v75 v4
  let v82 : BitVec 1 := Scalar.cmpi .ne v66 v76
  let v83 : BitVec 1 := Scalar.cmpi .sge arg6 24#32
  let v84 : BitVec 1 := Scalar.xori v83 1#1
  let v85 : BitVec 1 := Scalar.andi v82 v84
  let v91 : BitVec 32 := Scalar.select (Scalar.andi v85 1#1) (Scalar.addi a7 1#32) a7
  let v156 : BitVec 1 := Scalar.ori (Scalar.cmpi .ne v66 v76) v65
  let v161 : BitVec 32 := Scalar.select (Scalar.andi v156 1#1) (Scalar.addi a9 1#32) a9
  let v170 : BitVec 1 := Scalar.andi (Scalar.cmpi .ne v66 v71) (Scalar.xori v64 1#1)
  let v175 : BitVec 32 := Scalar.select (Scalar.andi v170 1#1) (Scalar.addi a10 1#32) a10
  let v177 : BitVec 1 := Scalar.ori (Scalar.cmpi .ne v66 v76) v65
  let v179 : BitVec 32 := Scalar.select v177 (Scalar.addi a8 1#32) a8
  let v181 : BitVec 32 := Scalar.select 1#1 (Scalar.addi a11 1#32) a11
  let v183 : BitVec 32 := Scalar.select (Scalar.cmpi .eq v181 25#32) 0#32 v181
  (v91, v179, v161, v175, v183)

/-- The loop runs 25 times. -/
theorem trips_eq : k0_t1_loop.trips = 25 := by decide +kernel

/-- The words the loop starts with. -/
theorem accAt_zero : ((Scalar.addi 0#32 1#32 : BitVec 32), (0#32 : BitVec 32), (0#32 : BitVec 32), (0#32 : BitVec 32), (0#32 : BitVec 32)) = accAt 0 := by
  decide +kernel

/-- One trip takes the carried words to the next trip's. -/
theorem nextAcc_eq : ∀ (i : grid0.Coords) (k : Fin k0_t1_loop.trips),
    nextAcc i k (baseW i) (askedW k) (usedW k) (usedW k) (doneW k) (curW k) = accAt (k.val + 1) := by
  decide +kernel

/-- The next index block is asked for in every trip but the last. -/
theorem cond1_iff : ∀ (i : grid0.Coords) (k : Fin k0_t1_loop.trips),
    k0_cond1 i k (curW k) = 1#1 ↔ k.val < 24 := by
  decide +kernel

/-- Every trip waits for its index block. -/
theorem cond2_eq : ∀ (i : grid0.Coords) (k : Fin k0_t1_loop.trips), k0_cond2 i k (curW k) = 1#1 := by
  decide +kernel

/-- Every trip writes its rows out. -/
theorem cond5_eq : ∀ (i : grid0.Coords) (k : Fin k0_t1_loop.trips), k0_cond5 i k (curW k) = 1#1 := by
  decide +kernel

/-- Every trip but the first waits for the write of the rows before. -/
theorem cond7_iff : ∀ (i : grid0.Coords) (k : Fin k0_t1_loop.trips),
    k0_cond7 i k (curW k) = 1#1 ↔ k.val ≠ 0 := by
  decide +kernel

/-- The accesses of a trip that a condition guards lie inside their arrays. -/
theorem chk1_at : ∀ (i : grid0.Coords) (k : Fin k0_t1_loop.trips),
    k0_chk1 i k (askedW k) (usedW k) (usedW k) (doneW k) (curW k) := by
  decide +kernel

/-- The row slot of a trip lies inside the row buffer. -/
theorem chk2_at : ∀ (k : Fin k0_t1_loop.trips), k0_chk2 (usedW k) := by
  decide +kernel

/-- The index slot of a trip lies inside the index buffer. -/
theorem chk3_at : ∀ (k : Fin k0_t1_loop.trips), k0_chk3 (usedW k) := by
  decide +kernel

/-- After the loop the last row slot lies inside the row buffer. -/
theorem chk4_at : k0_chk4 (doneW 25) := by
  decide +kernel

/-- After the loop the last block of rows lies inside the output. -/
theorem chk5_at : ∀ (i : grid0.Coords), k0_chk5 i (curW 25) := by
  decide +kernel

/-- The slot, 0 or 1, of trip `t`. -/
def par (t : Nat) : Fin 2 := ⟨t % 2, Nat.mod_lt _ (by decide)⟩

/-- Offsets of the copy of the next index block. -/
theorem off_ask : ∀ (i : grid0.Coords) (k : Fin k0_t1_loop.trips), k.val < 24 →
    k0_off4 (askedW k) = ![(par (k.val + 1)).val, 0, 0] ∧ k0_off6 (askedW k) = ![(par (k.val + 1)).val]
      ∧ k0_off5 i (curW k) = ![0, 256 * (firstBlk i + (k.val + 1))] := by
  decide +kernel

/-- Offsets of the wait for this trip's index block, and of the slots it uses. -/
theorem off_use : ∀ (k : Fin k0_t1_loop.trips),
    k0_off7 (usedW k) = ![(par k.val).val, 0, 0] ∧ k0_off9 (usedW k) = ![(par k.val).val]
      ∧ k0_off10 (usedW k) = ![(par k.val).val, 0, 0] ∧ k0_off11 (usedW k) = ![(par k.val).val, 0, 0]
      ∧ k0_off12 (usedW k) = ![(par k.val).val, 0, 0] ∧ k0_off14 (usedW k) = ![(par k.val).val] := by
  decide +kernel

/-- Offsets of this trip's blocks in the arrays. -/
theorem off_blk : ∀ (i : grid0.Coords) (k : Fin k0_t1_loop.trips),
    k0_off8 i (curW k) = ![0, 256 * (firstBlk i + k.val)] ∧ k0_off13 i (curW k) = ![256 * (firstBlk i + k.val), 0] := by
  decide +kernel

/-- Offsets of the wait for the write of the block before. -/
theorem off_done : ∀ (i : grid0.Coords) (k : Fin k0_t1_loop.trips), k.val ≠ 0 →
    k0_off15 (doneW k) = ![(par (k.val - 1)).val, 0, 0] ∧ k0_off17 (doneW k) = ![(par (k.val - 1)).val]
      ∧ k0_off16 i (curW k) = ![256 * (firstBlk i + (k.val - 1)), 0] := by
  decide +kernel

/-- Offsets of the first copy, before the loop. -/
theorem off_first : ∀ (i : grid0.Coords),
    k0_off1 = ![(par 0).val, 0, 0] ∧ k0_off3 = ![(par 0).val] ∧ k0_off2 i = ![0, 256 * (firstBlk i + 0)] := by
  decide +kernel

/-- Offsets of the last wait, after the loop. -/
theorem off_last : ∀ (i : grid0.Coords),
    k0_off21 (doneW 25) = ![(par 24).val, 0, 0] ∧ k0_off20 (doneW 25) = ![(par 24).val]
      ∧ k0_off19 i (curW 25) = ![256 * (firstBlk i + 24), 0] := by
  decide +kernel

/-- There are 800 blocks. -/
theorem firstBlk_le (i : grid0.Coords) : firstBlk i ≤ 775 := by
  have h0 : (i 0).val < 2 := (i 0).isLt
  have h1 : (i 1).val < 16 := (i 1).isLt
  unfold firstBlk; omega

end Cert.KernelIdeal.Gather
-- ==== Proof.Views.lean ====
/-
  The pieces of memory one vector subcore works on, as the program names them and as plain sets of indices: the two
  index slots and the two row slots, their halves, the blocks of the two arrays in HBM; and the contents each is to hold.
-/
module

public import proofs.«01_k».proof.Proof.Words
public import Idealize.ShloMosaic.Lib.SparseCore.Quiescent
public import Idealize.ShloMosaic.Lib.SparseCore.Ops
public import Idealize.ShloMosaic.Lib.SparseCore.Stream
public import Idealize.ShloMosaic.Lib.StableHlo.Run
public import Idealize.ShloMosaic.Lib.Pipeline.Kit
public import Idealize.ShloMosaic.Lib.Tactic

@[expose] public section

noncomputable section

namespace Cert.KernelIdeal.Gather

open Idealize.ShloMosaic Cert.KernelIdeal Cert.KernelIdeal.Gen Idealize.SL.Sem

variable {F : FTy → Type}

/-! ## The arrays and the buffers -/

/-- The table. -/
abbrev tabV : Memref sig .scVector .hbm S100000x128 .f32 := Memref.whole main_arg1_scv
/-- The list of lookups. -/
abbrev lstV : Memref sig .scVector .hbm S1x204800 .i32 := Memref.whole main_v1_scv
/-- The looked-up rows. -/
abbrev outV : Memref sig .scVector .hbm S204800x128 .f32 := Memref.whole main_v2_scv
/-- The subcore's two index slots. -/
abbrev idxV : Memref sig .scVector .vmem S2x1x256 .i32 := Memref.whole cc0_scoped0
/-- The subcore's two row slots. -/
abbrev rowV : Memref sig .scVector .vmem S2x256x128 .f32 := Memref.whole cc0_scoped2

/-- Index slot `p` lies within the index buffer. -/
theorem idxSlot_inb (p : Fin 2) : ∀ a, (![p.val, 0, 0] : Fin 3 → Nat) a + S1x1x256.size a ≤ S2x1x256.size a := by
  revert p; decide
/-- Row slot `p` lies within the row buffer. -/
theorem rowSlot_inb (p : Fin 2) : ∀ a, (![p.val, 0, 0] : Fin 3 → Nat) a + S1x256x128.size a ≤ S2x256x128.size a := by
  revert p; decide
/-- Cell `p` lies within an array of two. -/
theorem cell_inb (p : Fin 2) : ∀ a, (![p.val] : Fin 1 → Nat) a + S1.size a ≤ S2.size a := by
  revert p; decide
/-- Block `b` lies within the list. -/
theorem lstBlk_inb {b : Nat} (hb : b < 800) : ∀ a, (![0, 256 * b] : Fin 2 → Nat) a + S1x256.size a ≤ S1x204800.size a
  | 0 => (by decide : 0 + 1 ≤ 1)
  | 1 => show 256 * b + 256 ≤ 204800 by omega
  | ⟨_ + 2, h⟩ => absurd h (Nat.not_lt.2 (Nat.le_add_left _ _))
/-- Block `b` lies within the output. -/
theorem outBlk_inb {b : Nat} (hb : b < 800) : ∀ a, (![256 * b, 0] : Fin 2 → Nat) a + S256x128.size a ≤ S204800x128.size a
  | 0 => show 256 * b + 256 ≤ 204800 by omega
  | 1 => (by decide : 0 + 128 ≤ 128)
  | ⟨_ + 2, h⟩ => absurd h (Nat.not_lt.2 (Nat.le_add_left _ _))
/-- Half `h` lies within a row slot. -/
theorem rowHalf_inb (h : Fin 2) : ∀ a, (![128 * h.val, 0] : Fin 2 → Nat) a + S128x128.size a ≤ S256x128.size a := by
  revert h; decide
/-- Half `h` lies within an index slot. -/
theorem idxHalf_inb (h : Fin 2) : ∀ a, (![0, 128 * h.val] : Fin 2 → Nat) a + S1x128.size a ≤ S1x256.size a := by
  revert h; decide

/-- Index slot `p`. -/
abbrev idxSlot (p : Fin 2) : Memref sig .scVector .vmem S1x256 .i32 :=
  (idxV.slice (Rect.unit (s := S2x1x256) ![p.val, 0, 0] S1x1x256.size (idxSlot_inb p)) (fun _ => rfl)).squeeze S1x256 squeezes_S1x1x256_S1x256
/-- Row slot `p`. -/
abbrev rowSlot (p : Fin 2) : Memref sig .scVector .vmem S256x128 .f32 :=
  (rowV.slice (Rect.unit (s := S2x256x128) ![p.val, 0, 0] S1x256x128.size (rowSlot_inb p)) (fun _ => rfl)).squeeze S256x128 squeezes_S1x256x128_S256x128
/-- Half `h` of index slot `p`. -/
abbrev idxHalf (p h : Fin 2) : Memref sig .scVector .vmem S128 .i32 :=
  ((idxSlot p).slice (Rect.unit (s := S1x256) ![0, 128 * h.val] S1x128.size (idxHalf_inb h)) (fun _ => rfl)).squeeze S128 squeezes_S1x128_S128
/-- Half `h` of row slot `p`. -/
abbrev rowHalf (p h : Fin 2) : Memref sig .scVector .vmem S128x128 .f32 :=
  (rowSlot p).slice (Rect.unit (s := S256x128) ![128 * h.val, 0] S128x128.size (rowHalf_inb h)) (fun _ => rfl)
/-- Block `b` of the list. -/
abbrev lstBlk (b : Nat) (hb : b < 800) : Memref sig .scVector .hbm S1x256 .i32 :=
  lstV.slice (Rect.unit (s := S1x204800) ![0, 256 * b] S1x256.size (lstBlk_inb hb)) (fun _ => rfl)
/-- Block `b` of the output. -/
abbrev outBlk (b : Nat) (hb : b < 800) : Memref sig .scVector .hbm S256x128 .f32 :=
  outV.slice (Rect.unit (s := S204800x128) ![256 * b, 0] S256x128.size (outBlk_inb hb)) (fun _ => rfl)
/-- All of the table, as the gathers name it. -/
abbrev tabAll : Memref sig .scVector .hbm S100000x128 .f32 :=
  tabV.slice (Rect.unit (s := S100000x128) ![0, 0] S100000x128.size inb_S100000x128_S100000x128_0_0) (fun _ => rfl)

/-- The cell of an array of two that slot `p` uses. -/
abbrev cell (a : DmaSems sig S2) (p : Fin 2) : DmaSem sig :=
  ((a.slice (Rect.unit (s := S2) ![p.val] S1.size (cell_inb p))).squeeze S_ squeezes_S1_S_).sem
/-- The cell the copies into index slot `p` signal. -/
abbrev inSem (p : Fin 2) : DmaSem sig := cell cc0_scoped1 p
/-- The cell the copies out of row slot `p` signal. -/
abbrev outSem (p : Fin 2) : DmaSem sig := cell cc0_scoped3 p
/-- The cell the gathers of half `h` signal. -/
abbrev gatSem (h : Fin 2) : DmaSem sig := cell cc0_scratch0 h

/-! ## The program's spellings are these -/

/-- The program's index slot at offset `p` is index slot `p`. -/
theorem idxSlot_of {off : Fin 3 → Nat} {p : Fin 2} (h : off = ![p.val, 0, 0]) (hin : ∀ a, off a + S1x1x256.size a ≤ S2x1x256.size a) :
    (idxV.slice (Rect.unit (s := S2x1x256) off S1x1x256.size hin) (fun _ => rfl)).squeeze S1x256 squeezes_S1x1x256_S1x256 = idxSlot p := by
  subst h; rfl
/-- The program's row slot at offset `p` is row slot `p`. -/
theorem rowSlot_of {off : Fin 3 → Nat} {p : Fin 2} (h : off = ![p.val, 0, 0]) (hin : ∀ a, off a + S1x256x128.size a ≤ S2x256x128.size a) :
    (rowV.slice (Rect.unit (s := S2x256x128) off S1x256x128.size hin) (fun _ => rfl)).squeeze S256x128 squeezes_S1x256x128_S256x128 = rowSlot p := by
  subst h; rfl
/-- The program's piece of the list at `256 * b` is block `b`. -/
theorem lstBlk_of {off : Fin 2 → Nat} {b : Nat} (h : off = ![0, 256 * b]) (hb : b < 800) (hin : ∀ a, off a + S1x256.size a ≤ S1x204800.size a) :
    lstV.slice (Rect.unit (s := S1x204800) off S1x256.size hin) (fun _ => rfl) = lstBlk b hb := by
  subst h; rfl
/-- The program's piece of the output at `256 * b` is block `b`. -/
theorem outBlk_of {off : Fin 2 → Nat} {b : Nat} (h : off = ![256 * b, 0]) (hb : b < 800) (hin : ∀ a, off a + S256x128.size a ≤ S204800x128.size a) :
    outV.slice (Rect.unit (s := S204800x128) off S256x128.size hin) (fun _ => rfl) = outBlk b hb := by
  subst h; rfl
/-- The program's cell at offset `p` is cell `p`. -/
theorem cell_of (a : DmaSems sig S2) {off : Fin 1 → Nat} {p : Fin 2} (h : off = ![p.val]) (hin : ∀ x, off x + S1.size x ≤ S2.size x) :
    ((a.slice (Rect.unit (s := S2) off S1.size hin)).squeeze S_ squeezes_S1_S_).sem = cell a p := by
  subst h; rfl

/-! ## Sets of indices -/

/-- The rows from `a` up to `b` of the output. -/
def rowSet (a b : Nat) : Finset S204800x128.Idx := Finset.univ.filter fun j => a ≤ (j 0).val ∧ (j 0).val < b
/-- The lookups from `a` up to `b` of the list. -/
def lstSet (a b : Nat) : Finset S1x204800.Idx := Finset.univ.filter fun j => a ≤ (j 1).val ∧ (j 1).val < b

/-- An index is in a run of rows when its row is. -/
theorem mem_rowSet {a b : Nat} {j : S204800x128.Idx} : j ∈ rowSet a b ↔ a ≤ (j 0).val ∧ (j 0).val < b := by simp [rowSet]
/-- An index is in a run of lookups when its place is. -/
theorem mem_lstSet {a b : Nat} {j : S1x204800.Idx} : j ∈ lstSet a b ↔ a ≤ (j 1).val ∧ (j 1).val < b := by simp [lstSet]

/-- Block `b` of the output is its 256 rows. -/
theorem set_outBlk (b : Nat) (hb : b < 800) : (outBlk b hb).view.set = rowSet (256 * b) (256 * (b + 1)) := by
  refine (View.set_slice_whole _ _ : _ = (Rect.unit (s := S204800x128) ![256 * b, 0] S256x128.size (outBlk_inb hb)).set).trans ?_
  ext j
  rw [Rect.mem_set_unit, mem_rowSet]
  constructor
  · intro h
    have h0 := h 0
    simp only [Matrix.cons_val_zero] at h0
    have h0' : 256 * b ≤ (j 0).val ∧ (j 0).val < 256 * b + 256 := h0
    omega
  · intro h a
    match a with
    | 0 => exact (show 256 * b ≤ (j 0).val ∧ (j 0).val < 256 * b + 256 by omega)
    | 1 => exact ⟨Nat.zero_le _, (show (j 1).val < 0 + 128 from by have := (j 1).isLt; simpa using this)⟩

/-- Block `b` of the list is its 256 places. -/
theorem set_lstBlk (b : Nat) (hb : b < 800) : (lstBlk b hb).view.set = lstSet (256 * b) (256 * (b + 1)) := by
  refine (View.set_slice_whole _ _ : _ = (Rect.unit (s := S1x204800) ![0, 256 * b] S1x256.size (lstBlk_inb hb)).set).trans ?_
  ext j
  rw [Rect.mem_set_unit, mem_lstSet]
  constructor
  · intro h
    have h0 : 256 * b ≤ (j 1).val ∧ (j 1).val < 256 * b + 256 := h 1
    omega
  · intro h a
    match a with
    | 0 => exact ⟨Nat.zero_le _, (show (j 0).val < 0 + 1 from by have := (j 0).isLt; simpa using this)⟩
    | 1 => exact (show 256 * b ≤ (j 1).val ∧ (j 1).val < 256 * b + 256 by omega)

/-- The table as the gathers name it is all of it. -/
theorem set_tabAll : tabAll.view.set = Finset.univ := by
  refine (View.set_slice_whole _ _ : _ = (Rect.unit (s := S100000x128) ![0, 0] S100000x128.size inb_S100000x128_S100000x128_0_0).set).trans ?_
  ext j
  rw [Rect.mem_set_unit]
  refine ⟨fun _ => Finset.mem_univ _, fun _ a => ⟨?_, ?_⟩⟩
  · match a with
    | 0 => exact Nat.zero_le _
    | 1 => exact Nat.zero_le _
  · match a with
    | 0 => exact (show (j 0).val < 0 + 100000 from by have := (j 0).isLt; simpa using this)
    | 1 => exact (show (j 1).val < 0 + 128 from by have := (j 1).isLt; simpa using this)

/-! ## Where the views put an index -/

/-- Index slot `p` in the index buffer. -/
theorem emb_idxSlot (p : Fin 2) (x : S1x256.Idx) :
    ((idxSlot p).view.emb x 0).val = p.val ∧ ((idxSlot p).view.emb x 2).val = (x 1).val := by
  have e : (idxSlot p).view.emb x = (Rect.unit (s := S2x1x256) ![p.val, 0, 0] S1x1x256.size (idxSlot_inb p)).emb
      (Fin.cons ⟨0, Nat.one_pos⟩ x) := by
    rw [← Shape.reshapeEquiv_cons_one (d := ![1, 256]) squeezes_S1x1x256_S1x256.numel_eq x]; rfl
  rw [e]
  exact ⟨rfl, (show 0 + 1 * (x 1).val = _ by omega)⟩

/-- Row slot `p` in the row buffer. -/
theorem emb_rowSlot (p : Fin 2) (x : S256x128.Idx) :
    ((rowSlot p).view.emb x 0).val = p.val ∧ ((rowSlot p).view.emb x 1).val = (x 0).val ∧ ((rowSlot p).view.emb x 2).val = (x 1).val := by
  have e : (rowSlot p).view.emb x = (Rect.unit (s := S2x256x128) ![p.val, 0, 0] S1x256x128.size (rowSlot_inb p)).emb
      (Fin.cons ⟨0, Nat.one_pos⟩ x) := by
    rw [← Shape.reshapeEquiv_cons_one (d := ![256, 128]) squeezes_S1x256x128_S256x128.numel_eq x]; rfl
  rw [e]
  exact ⟨rfl, (show 0 + 1 * (x 0).val = _ by omega), (show 0 + 1 * (x 1).val = _ by omega)⟩

/-- Half `h` of index slot `p` in the index buffer. -/
theorem emb_idxHalf (p h : Fin 2) (x : S128.Idx) :
    ((idxHalf p h).view.emb x 0).val = p.val ∧ ((idxHalf p h).view.emb x 2).val = 128 * h.val + (x 0).val := by
  have e : (idxHalf p h).view.emb x = (idxSlot p).view.emb ((Rect.unit (s := S1x256) ![0, 128 * h.val] S1x128.size (idxHalf_inb h)).emb
      (Fin.cons ⟨0, Nat.one_pos⟩ x)) := by
    rw [← Shape.reshapeEquiv_cons_one (d := ![128]) squeezes_S1x128_S128.numel_eq x]; rfl
  rw [e]
  refine ⟨(emb_idxSlot p _).1, (emb_idxSlot p _).2.trans ?_⟩
  exact (show 128 * h.val + 1 * (x 0).val = _ by omega)

/-- Half `h` of row slot `p` in the row buffer. -/
theorem emb_rowHalf (p h : Fin 2) (x : S128x128.Idx) :
    ((rowHalf p h).view.emb x 0).val = p.val ∧ ((rowHalf p h).view.emb x 1).val = 128 * h.val + (x 0).val
      ∧ ((rowHalf p h).view.emb x 2).val = (x 1).val := by
  have e : (rowHalf p h).view.emb x = (rowSlot p).view.emb ((Rect.unit (s := S256x128) ![128 * h.val, 0] S128x128.size (rowHalf_inb h)).emb x) := rfl
  rw [e]
  refine ⟨(emb_rowSlot p _).1, (emb_rowSlot p _).2.1.trans ?_, (emb_rowSlot p _).2.2.trans ?_⟩
  · exact (show 128 * h.val + 1 * (x 0).val = _ by omega)
  · exact (show 0 + 1 * (x 1).val = _ by omega)

/-- Block `b` in the list. -/
theorem emb_lstBlk (b : Nat) (hb : b < 800) (x : S1x256.Idx) : ((lstBlk b hb).view.emb x 1).val = 256 * b + (x 1).val :=
  show 256 * b + 1 * (x 1).val = _ by omega

/-- Block `b` in the output. -/
theorem emb_outBlk (b : Nat) (hb : b < 800) (x : S256x128.Idx) :
    ((outBlk b hb).view.emb x 0).val = 256 * b + (x 0).val ∧ ((outBlk b hb).view.emb x 1).val = (x 1).val :=
  ⟨show 256 * b + 1 * (x 0).val = _ by omega, show 0 + 1 * (x 1).val = _ by omega⟩

/-- The table as the gathers name it, in the table. -/
theorem emb_tabAll (x : S100000x128.Idx) : tabAll.view.emb x = x := by
  funext a
  match a with
  | 0 => exact Fin.ext (show 0 + 1 * (x 0).val = _ by omega)
  | 1 => exact Fin.ext (show 0 + 1 * (x 1).val = _ by omega)

/-! ## The halves make up the slot -/

/-- What index slot `p` holds of the index buffer. -/
theorem mem_idxSlot {p : Fin 2} {j : S2x1x256.Idx} : j ∈ (idxSlot p).view.set ↔ (j 0).val = p.val := by
  have e : (idxSlot p).view.set = (Rect.unit (s := S2x1x256) ![p.val, 0, 0] S1x1x256.size (idxSlot_inb p)).set :=
    (View.set_reshape _ _).trans (View.set_slice_whole _ _)
  refine (iff_of_eq (congrArg (j ∈ ·) e)).trans ?_
  rw [Rect.mem_set_unit]
  constructor
  · intro h
    have h0 : p.val ≤ (j 0).val ∧ (j 0).val < p.val + 1 := h 0
    omega
  · intro h a
    match a with
    | 0 => exact (show p.val ≤ (j 0).val ∧ (j 0).val < p.val + 1 by omega)
    | 1 => exact ⟨Nat.zero_le _, (show (j 1).val < 0 + 1 from by have := (j 1).isLt; simpa using this)⟩
    | 2 => exact ⟨Nat.zero_le _, (show (j 2).val < 0 + 256 from by have := (j 2).isLt; simpa using this)⟩

/-- What row slot `p` holds of the row buffer. -/
theorem mem_rowSlot {p : Fin 2} {j : S2x256x128.Idx} : j ∈ (rowSlot p).view.set ↔ (j 0).val = p.val := by
  have e : (rowSlot p).view.set = (Rect.unit (s := S2x256x128) ![p.val, 0, 0] S1x256x128.size (rowSlot_inb p)).set :=
    (View.set_reshape _ _).trans (View.set_slice_whole _ _)
  refine (iff_of_eq (congrArg (j ∈ ·) e)).trans ?_
  rw [Rect.mem_set_unit]
  constructor
  · intro h
    have h0 : p.val ≤ (j 0).val ∧ (j 0).val < p.val + 1 := h 0
    omega
  · intro h a
    match a with
    | 0 => exact (show p.val ≤ (j 0).val ∧ (j 0).val < p.val + 1 by omega)
    | 1 => exact ⟨Nat.zero_le _, (show (j 1).val < 0 + 256 from by have := (j 1).isLt; simpa using this)⟩
    | 2 => exact ⟨Nat.zero_le _, (show (j 2).val < 0 + 128 from by have := (j 2).isLt; simpa using this)⟩

/-- What half `h` of index slot `p` holds. -/
theorem mem_idxHalf {p h : Fin 2} {j : S2x1x256.Idx} :
    j ∈ (idxHalf p h).view.set ↔ (j 0).val = p.val ∧ 128 * h.val ≤ (j 2).val ∧ (j 2).val < 128 * h.val + 128 := by
  constructor
  · intro hj
    obtain ⟨x, -, rfl⟩ := Finset.mem_map.mp hj
    have hx : (x 0).val < 128 := (x 0).isLt
    rw [(emb_idxHalf p h x).1, (emb_idxHalf p h x).2]
    omega
  · rintro ⟨h0, h1, h2⟩
    have hx : (j 2).val - 128 * h.val < 128 := by omega
    refine Finset.mem_map.mpr ⟨fun | 0 => ⟨(j 2).val - 128 * h.val, hx⟩, Finset.mem_univ _, ?_⟩
    funext a
    match a with
    | 0 => exact Fin.ext ((emb_idxHalf p h _).1.trans h0.symm)
    | 1 => exact Subsingleton.elim (α := Fin 1) _ _
    | 2 => exact Fin.ext ((emb_idxHalf p h _).2.trans (show 128 * h.val + ((j 2).val - 128 * h.val) = (j 2).val by omega))

/-- What half `h` of row slot `p` holds. -/
theorem mem_rowHalf {p h : Fin 2} {j : S2x256x128.Idx} :
    j ∈ (rowHalf p h).view.set ↔ (j 0).val = p.val ∧ 128 * h.val ≤ (j 1).val ∧ (j 1).val < 128 * h.val + 128 := by
  constructor
  · intro hj
    obtain ⟨x, -, rfl⟩ := Finset.mem_map.mp hj
    have hx : (x 0).val < 128 := (x 0).isLt
    rw [(emb_rowHalf p h x).1, (emb_rowHalf p h x).2.1]
    omega
  · rintro ⟨h0, h1, h2⟩
    have hx : (j 1).val - 128 * h.val < 128 := by omega
    refine Finset.mem_map.mpr ⟨fun | 0 => ⟨(j 1).val - 128 * h.val, hx⟩ | 1 => (j 2 : Fin 128), Finset.mem_univ _, ?_⟩
    funext a
    match a with
    | 0 => exact Fin.ext ((emb_rowHalf p h _).1.trans h0.symm)
    | 1 => exact Fin.ext ((emb_rowHalf p h _).2.1.trans (show 128 * h.val + ((j 1).val - 128 * h.val) = (j 1).val by omega))
    | 2 => exact Fin.ext (emb_rowHalf p h _).2.2

/-- An index slot without its first half is its second half. -/
theorem idxSlot_sdiff (p : Fin 2) : (idxSlot p).view.set \ (idxHalf p 0).view.set = (idxHalf p 1).view.set := by
  ext j
  rw [Finset.mem_sdiff, mem_idxSlot, mem_idxHalf, mem_idxHalf]
  have hj : (j 2).val < 256 := (j 2).isLt
  simp only [Fin.val_zero, Fin.val_one]
  omega
/-- The first half of an index slot lies in it. -/
theorem idxHalf_subset (p : Fin 2) : (idxHalf p 0).view.set ⊆ (idxSlot p).view.set := fun j hj =>
  mem_idxSlot.mpr (mem_idxHalf.mp hj).1

/-- A row slot without its first half is its second half. -/
theorem rowSlot_sdiff (p : Fin 2) : (rowSlot p).view.set \ (rowHalf p 0).view.set = (rowHalf p 1).view.set := by
  ext j
  rw [Finset.mem_sdiff, mem_rowSlot, mem_rowHalf, mem_rowHalf]
  have hj : (j 1).val < 256 := (j 1).isLt
  simp only [Fin.val_zero, Fin.val_one]
  omega
/-- The first half of a row slot lies in it. -/
theorem rowHalf_subset (p : Fin 2) : (rowHalf p 0).view.set ⊆ (rowSlot p).view.set := fun j hj =>
  mem_rowSlot.mpr (mem_rowHalf.mp hj).1

/-- The two index slots are all of the index buffer. -/
theorem idxSlots_sdiff : (Finset.univ : Finset S2x1x256.Idx) \ (idxSlot 0).view.set = (idxSlot 1).view.set := by
  ext j
  rw [Finset.mem_sdiff, mem_idxSlot, mem_idxSlot]
  have hj : (j 0).val < 2 := (j 0).isLt
  simp only [Finset.mem_univ, true_and, Fin.val_zero, Fin.val_one]
  omega
/-- The two row slots are all of the row buffer. -/
theorem rowSlots_sdiff : (Finset.univ : Finset S2x256x128.Idx) \ (rowSlot 0).view.set = (rowSlot 1).view.set := by
  ext j
  rw [Finset.mem_sdiff, mem_rowSlot, mem_rowSlot]
  have hj : (j 0).val < 2 := (j 0).isLt
  simp only [Finset.mem_univ, true_and, Fin.val_zero, Fin.val_one]
  omega

/-! ## Contents -/

/-- Place `n` of the list, counted around. -/
def lstAt (n : Nat) : S1x204800.Idx := fun
  | 0 => (0 : Fin 1)
  | 1 => (⟨n % 204800, Nat.mod_lt _ (by decide)⟩ : Fin 204800)
  | ⟨_ + 2, h⟩ => absurd h (Nat.not_lt.2 (Nat.le_add_left _ _))
/-- Column `c` of row `r` of the table, counted around. -/
def tabAt (r : Nat) (c : Fin 128) : S100000x128.Idx := fun
  | 0 => (⟨r % 100000, Nat.mod_lt _ (by decide)⟩ : Fin 100000)
  | 1 => c
  | ⟨_ + 2, h⟩ => absurd h (Nat.not_lt.2 (Nat.le_add_left _ _))
/-- Column `c` of row `r` of the output, counted around. -/
def outAt (r : Nat) (c : Fin 128) : S204800x128.Idx := fun
  | 0 => (⟨r % 204800, Nat.mod_lt _ (by decide)⟩ : Fin 204800)
  | 1 => c
  | ⟨_ + 2, h⟩ => absurd h (Nat.not_lt.2 (Nat.le_add_left _ _))

/-- An index of the list is that of its place. -/
theorem eq_lstAt {j : S1x204800.Idx} {n : Nat} (h : (j 1).val = n) : j = lstAt n := by
  subst h; funext a
  match a with
  | 0 => exact Subsingleton.elim (α := Fin 1) _ _
  | 1 => exact Fin.ext (Nat.mod_eq_of_lt (j 1).isLt).symm
/-- An index of the table is that of its row and column. -/
theorem eq_tabAt {j : S100000x128.Idx} {r : Nat} {c : Fin 128} (h : (j 0).val = r) (hc : (j 1).val = c.val) : j = tabAt r c := by
  subst h; funext a
  match a with
  | 0 => exact Fin.ext (Nat.mod_eq_of_lt (j 0).isLt).symm
  | 1 => exact Fin.ext hc
/-- An index of the output is that of its row and column. -/
theorem eq_outAt {j : S204800x128.Idx} {r : Nat} {c : Fin 128} (h : (j 0).val = r) (hc : (j 1).val = c.val) : j = outAt r c := by
  subst h; funext a
  match a with
  | 0 => exact Fin.ext (Nat.mod_eq_of_lt (j 0).isLt).symm
  | 1 => exact Fin.ext hc

/-- The output: at each row, the table's row that the list names there. -/
def looked (T : S100000x128.Idx → Elt F .f32) (I : S1x204800.Idx → Elt F .i32) : S204800x128.Idx → Elt F .f32 :=
  fun j => T (tabAt (I (lstAt (j 0).val)).toNat (j 1))

/-- An index slot that holds block `b` of the list. -/
def idxAt (I : S1x204800.Idx → Elt F .i32) (b : Nat) : S2x1x256.Idx → Elt F .i32 := fun j => I (lstAt (256 * b + (j 2).val))
/-- A row slot that holds block `b` of the output. -/
def rowAt (G : S204800x128.Idx → Elt F .f32) (b : Nat) : S2x256x128.Idx → Elt F .f32 := fun j => G (outAt (256 * b + (j 1).val) (j 2))

end Cert.KernelIdeal.Gather

end
-- ==== Proof.Steps.lean ====
/-
  The transfers of one vector subcore, each as one step with a postcondition: the copy of a block of the list into an
  index slot and its wait, the two gathers of a block's rows and their waits, the copy of a row slot to the output and
  its wait. What a transfer in flight will deliver is stated at the contents it is to leave.
-/
module

public import proofs.«01_k».proof.Proof.Views

@[expose] public section

noncomputable section

namespace Cert.KernelIdeal.Gather

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

/-! ## The program as the launch sees it -/

/-- The program's labels. -/
abbrev ΛP : Labels := Pipeline.Sig Λ₀ (Fin 0) fun p => (pcfgs (F := F) p).Adm
/-- The call, as the launch sees it. -/
abbrev K : SparseCore.Cfg τ sig (ΛP (F := F)) 1 := sc (F := F)
/-- The call runs on sixteen subcores of a core. -/
theorem nSub_zero : (K (F := F)).nSub 0 = 16 := rfl
/-- The call runs on two cores. -/
theorem nCore_zero : (K (F := F)).nCore 0 = 2 := rfl
/-- The definitions beneath the call. -/
abbrev D : Defs nD τ sig (Elt F) (ΛP (F := F)) := Pipeline.defs pcfgs defs₀
/-- No variants are needed. -/
abbrev 𝒱₀ : Variants := Variants.none
/-- The same, lifted. -/
abbrev 𝒱 : Variants := 𝒱₀.lift
/-- The one variant. -/
abbrev v₀ : 𝒱.V := Sum.inl none

/-- What the launch asks of the four handshake cells. -/
theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

/-- The handshakes' rounds and the transfers' counters. -/
abbrev UH : Type := URounds (GSem nD τ sig) ℕ
/-- The run's ghost state. -/
abbrev UU : Type := UH × Counters

local notation "𝕄" => MT nD τ sig (HIx 1) (Elt F) ℕ UU ℕ

/-- Where the handshakes live in it. -/
abbrev EH : Emb UH (MT nD τ sig (HIx 1) (Elt F) ℕ UU ℕ) := embL

/-! ## One vector subcore -/

/-- Subcore `L`'s core. -/
abbrev cV (L : grid0.Coords) : Fin τ.nSC := (L 0).castLE hcore0
/-- Subcore `L`'s place in its core. -/
abbrev jV (L : grid0.Coords) : Fin τ.nSub := (L 1).castLE hsub0
/-- Vector subcore `L` of device `d`. -/
abbrev tV (d : Dev nD) (L : grid0.Coords) : Thread nD τ := V d (cV L) (jV L)

variable (d : Dev nD) (L : grid0.Coords)
variable (T : S100000x128.Idx → Elt F .f32) (I : S1x204800.Idx → Elt F .i32)
variable (q ql : PosShare TreeShare)

/-- The table, as the subcore names it. -/
abbrev tabLoc : Loc nD τ sig := tabV.view.loc (tV d L)
/-- The list, as the subcore names it. -/
abbrev lstLoc : Loc nD τ sig := lstV.view.loc (tV d L)
/-- The output, as the subcore names it. -/
abbrev outLoc : Loc nD τ sig := outV.view.loc (tV d L)
/-- The subcore's index buffer. -/
abbrev idxLoc : Loc nD τ sig := idxV.view.loc (tV d L)
/-- The subcore's row buffer. -/
abbrev rowLoc : Loc nD τ sig := rowV.view.loc (tV d L)

/-- What a copy into an index slot counts. -/
abbrev nIn : ℕ := (idxSlot 0).view.dmaCredit
/-- What a copy of a block of the output counts. -/
abbrev nOut : ℕ := (outBlk 0 (by decide)).view.dmaCredit
/-- What a gather of half a block counts. -/
abbrev nGat : ℕ := (rowHalf 0 0).view.dmaCredit

/-- Index slot `p` not in use: its words, its cell at zero, a share of the whole list. -/
def idxFree (p : Fin 2) : sProp 𝕄 :=
  iprop((∃ f : S2x1x256.Idx → Elt F .i32, idxLoc d L ↦[(idxSlot p).view.set]{fullShare} f) ∗ semVal (tV d L, .dma (inSem p)) 0
    ∗ lstLoc d L ↦[Finset.univ]{ql} I)

/-- Block `b` of the list on its way into index slot `p`. -/
def idxComing (p : Fin 2) (b : ℕ) : sProp 𝕄 :=
  iprop(Transfers.Flight countersEmb (tV d L) (.dma (inSem p)) (default : HIx 1) nIn
      iprop((idxLoc d L ↦[(idxSlot p).view.set]{fullShare} idxAt I b) ∗ lstLoc d L ↦[lstSet (256 * b) (256 * (b + 1))]{ql} I)
    ∗ lstLoc d L ↦[Finset.univ \ lstSet (256 * b) (256 * (b + 1))]{ql} I)

/-- Index slot `p` holding block `b` of the list. -/
def idxHeld (p : Fin 2) (b : ℕ) : sProp 𝕄 :=
  iprop((idxLoc d L ↦[(idxSlot p).view.set]{fullShare} idxAt I b) ∗ semVal (tV d L, .dma (inSem p)) 0
    ∗ lstLoc d L ↦[Finset.univ]{ql} I)

/-- Row slot `p` not in use. -/
def rowFree (p : Fin 2) : sProp 𝕄 :=
  iprop((∃ f : S2x256x128.Idx → Elt F .f32, rowLoc d L ↦[(rowSlot p).view.set]{fullShare} f) ∗ semVal (tV d L, .dma (outSem p)) 0)

/-- Row slot `p`, holding block `b` of the output, on its way there. -/
def rowGoing (p : Fin 2) (b : ℕ) : sProp 𝕄 :=
  Transfers.Flight countersEmb (tV d L) (.dma (outSem p)) (default : HIx 1) nOut
    iprop((outLoc d L ↦[rowSet (256 * b) (256 * (b + 1))]{fullShare} looked T I) ∗ rowLoc d L ↦[(rowSlot p).view.set]{fullShare} rowAt (looked T I) b)

/-- Half `h` of block `b` of the output being gathered into row slot `p` by the words of index slot `p`. -/
def gathering (p h : Fin 2) (b : ℕ) : sProp 𝕄 :=
  Transfers.Flight countersEmb (tV d L) (.dma (gatSem h)) (default : HIx 1) nGat
    iprop((rowLoc d L ↦[(rowHalf p h).view.set]{fullShare} rowAt (looked T I) b) ∗ (tabLoc d L ↦[Finset.univ]{q} T)
      ∗ idxLoc d L ↦[(idxHalf p h).view.set]{fullShare} idxAt I b)

omit [FloatOps F] in
/-- A slot holding a block may be used anew. -/
theorem idxHeld_free (p : Fin 2) (b : ℕ) : (idxHeld d L I ql p b : sProp 𝕄) ⊢ idxFree d L I ql p := by
  unfold idxHeld idxFree
  iintro ⟨Hs, Hv, Hl⟩
  isplitl [Hs]; · iexists _; iexact Hs
  isplitl [Hv] <;> iassumption

/-! ## What the copies write -/

omit [FloatOps F] in
/-- A copy of block `b` of the list into slot `p` leaves that block there. -/
theorem write_idxSlot (p : Fin 2) (b : ℕ) (hb : b < 800) (f : S2x1x256.Idx → Elt F .i32) :
    ∀ j ∈ (idxSlot p).view.set, (idxSlot p).view.write (Elt F) f ((lstBlk b hb).view.read (Elt F) I) Finset.univ j = idxAt I b j := by
  intro j hj
  obtain ⟨x, -, rfl⟩ := Finset.mem_map.mp hj
  refine (View.write_emb_of_mem (Val := Elt F) (v := (idxSlot p).view) f _ (Finset.mem_univ x)).trans ?_
  refine (cast_eq _ _).trans ((cast_eq _ _).trans ?_)
  exact congrArg I (eq_lstAt ((emb_lstBlk b hb x).trans (congrArg (256 * b + ·) (emb_idxSlot p x).2.symm)))

omit [FloatOps F] in
/-- A copy out of a row slot that holds block `b` of `G` leaves `G` on that block of the output. -/
theorem write_outBlk (p : Fin 2) (b : ℕ) (hb : b < 800) (G f : S204800x128.Idx → Elt F .f32) :
    ∀ j ∈ (outBlk b hb).view.set, (outBlk b hb).view.write (Elt F) f ((rowSlot p).view.read (Elt F) (rowAt G b)) Finset.univ j = G j := by
  intro j hj
  obtain ⟨x, -, rfl⟩ := Finset.mem_map.mp hj
  refine (View.write_emb_of_mem (Val := Elt F) (v := (outBlk b hb).view) f _ (Finset.mem_univ x)).trans ?_
  refine (cast_eq _ _).trans ((cast_eq _ _).trans ?_)
  refine congrArg G (eq_outAt ?_ ?_).symm
  · exact (emb_outBlk b hb x).1.trans (congrArg (256 * b + ·) (emb_rowSlot p x).2.1.symm)
  · exact (emb_outBlk b hb x).2.trans (emb_rowSlot p x).2.2.symm

omit [FloatOps F] in
/-- Places are counted around the list. -/
theorem lstAt_mod (n : ℕ) : lstAt (n % 204800) = lstAt n := by
  funext a
  match a with
  | 0 => rfl
  | 1 => exact Fin.ext (Nat.mod_mod _ _)

omit [FloatOps F] in
/-- The word the gathers of half `h` read at place `y`. -/
theorem read_idxHalf (p h : Fin 2) (b : ℕ) (y : S128.Idx) :
    (idxHalf p h).view.read (Elt F) (idxAt I b) y = I (lstAt (256 * b + (128 * h.val + (y 0).val))) :=
  (cast_eq _ _).trans (congrArg (fun n => I (lstAt (256 * b + n))) (emb_idxHalf p h y).2)

omit [FloatOps F] in
/-- A gather of half `h` by an index slot that holds block `b` leaves the rows looked up on that half of the row slot. -/
theorem write_rowHalf (p h : Fin 2) (b : ℕ) (f : S2x256x128.Idx → Elt F .f32) (hn : S128.numel = S128x128.size gathers_S100000x128_S128x128.axis')
    (hin : ∀ x, ((idxHalf p h).view.read (Elt F) (idxAt I b) x).toNat < S100000x128.size gathers_S100000x128_S128x128.axis) :
    ∀ j ∈ (rowHalf p h).view.set, (rowHalf p h).view.write (Elt F) f
        (SparseCore.gatherPayload gathers_S100000x128_S128x128 (tabAll.view.read (Elt F) T)
          (SparseCore.rows ((idxHalf p h).view.read (Elt F) (idxAt I b)) hn hin)) Finset.univ j
      = rowAt (looked T I) b j := by
  intro j hj
  obtain ⟨x, -, rfl⟩ := Finset.mem_map.mp hj
  refine (View.write_emb_of_mem (Val := Elt F) (v := (rowHalf p h).view) f _ (Finset.mem_univ x)).trans ?_
  show T (tabAll.view.emb (gathers_S100000x128_S128x128.idx (SparseCore.rows ((idxHalf p h).view.read (Elt F) (idxAt I b)) hn hin) x)) = _
  refine congrArg T ((emb_tabAll _).trans (eq_tabAt ?_ ?_))
  · refine (congrArg Fin.val (Shape.Gathers.idx_axis gathers_S100000x128_S128x128 _ x)).trans ?_
    show ((idxHalf p h).view.read (Elt F) (idxAt I b) (S128.rowMajor.symm _)).toNat = (I (lstAt (_ % 204800))).toNat
    rw [lstAt_mod, read_idxHalf, (emb_rowHalf p h x).2.1, ← Shape.rowMajor_val_one, Equiv.apply_symm_apply]
    rfl
  · exact (Shape.Gathers.idx_of_ne gathers_S100000x128_S128x128 _ x (b := 1) (by decide)).trans (emb_rowHalf p h x).2.2.symm

omit [FloatOps F] in
/-- A gather of half a block counts what its rows count together. -/
theorem sum_rows (p h : Fin 2) (hg : S100000x128.Gathers 0 S128x128) :
    ∑ j, ((rowHalf p h).slice (S128x128.rowRect hg.axis' j) (S128x128.stride_rowRect hg.axis' j)).view.dmaCredit = nGat := by
  refine (Finset.sum_congr rfl fun j _ => (rfl : _ = ((rowHalf 0 0).slice (S128x128.rowRect hg.axis' ⟨0, (show 0 < 128 by decide)⟩) (S128x128.stride_rowRect hg.axis' ⟨0, (show 0 < 128 by decide)⟩)).view.dmaCredit)).trans ?_
  rw [Finset.sum_const, Finset.card_univ]
  decide +revert

/-! ## The steps -/

section Steps

variable {O : CellTallies nD τ sig (HIx 1)} {W : Waits sig (HIx 1)}

/-- The waits the subcore has made, beside those it began with. -/
def waited (O : CellTallies nD τ sig (HIx 1)) (W : Waits sig (HIx 1)) : sProp 𝕄 :=
  iprop(∃ W', ⌜∀ p ∈ W', p ∈ W ∨ p.2 = none⌝ ∗ owes (tV d L) O W')

omit [FloatOps F] in
/-- One more wait keeps the record of the waits made. -/
theorem waited_insert {W' : Waits sig (HIx 1)} (h : ∀ p ∈ W', p ∈ W ∨ p.2 = none) (sm : SemLoc sig) :
    (owes (tV d L) O (insert (sm, (default : HIx 1)) W') : sProp 𝕄) ⊢ iprop(∃ W', ⌜∀ p ∈ W', p ∈ W ∨ p.2 = none⌝ ∗ owes (tV d L) O W') := by
  iintro HO
  iexists _; isplitr
  swap; · iexact HO
  ipureintro; intro p hp
  rcases Finset.mem_insert.mp hp with rfl | hp
  · exact .inr rfl
  · exact h p hp

/-- Start the copy of block `b` of the list into index slot `p`. -/
theorem step_in {Q : PUnit → sProp 𝕄} (p : Fin 2) (b : ℕ) (hb : b < 800)
    {src : Memref sig .scVector .hbm S1x256 .i32} {dst : Memref sig .scVector .vmem S1x256 .i32} {sm : DmaSem sig}
    {hsrc : src.view.WordExact} {hdst : dst.view.WordExact} {hsem : DmaTarget.Typed (nD := nD) (τ := τ) (p := (tV d L).2) .hbm (.dma sm) (.here dst)}
    (hs : src = lstBlk b hb) (hd : dst = idxSlot p) (hm : sm = inSem p) :
    (idxFree d L I ql p : sProp 𝕄) ⊢ iprop((idxComing d L I ql p b -∗ Q ⟨⟩)
      -∗ wp frame (wpE (defs₀ (F := F)) 𝒱₀ (tV d L) none) Set.univ
          (Prog.lift (TpuEff.enqueueDma (p := (tV d L).2) src (.here dst) (.dma sm) hsrc hdst hsem)) Q) := by
  subst hs hd hm
  unfold idxFree idxComing
  iintro ⟨⟨%f, Hs⟩, Hv, Hl⟩ Hk
  ihave Hl := (pointsTo_split_subset (q := ql) (f := I) (S := Finset.univ) (Finset.subset_univ (lstSet (256 * b) (256 * (b + 1))))).1 $$ Hl
  icases Hl with ⟨Hb, Hr⟩
  iapply (Transfers.wp_dmaLocal countersEmb 𝒱₀ (tV d L) none (src := lstBlk b hb) (dst := idxSlot p) (sm := .dma (inSem p)) (via := ReadAs.same)
    (q := ql) (fs := I) (Sd := (idxSlot p).view.set) (fd := f) (k := .ret) (Q := Q) (default : HIx 1) nIn rfl (View.dmaCredit_pos _ (by decide)) (Finset.Subset.refl _)) $$ [Hs Hb Hv]
  · isplitl [Hb]; · rw [set_lstBlk]; iexact Hb
    isplitl [Hs]; · iexact Hs
    iexact Hv
  iintro Hfl
  iapply (le_wp_ret _ _ _ _ _)
  iapply Hk
  isplitl [Hfl]
  · iapply (Transfers.Flight_mono countersEmb (tV d L) ?_)
    rotate_left; · iexact Hfl
    rw [set_lstBlk]
    iintro ⟨Ha, Hb⟩
    isplitl [Ha]
    · iapply (Entails.of_eq (pointsTo_congr (write_idxSlot I p b hb f)))
      iexact Ha
    · iexact Hb
  · iexact Hr

/-- Wait for block `b` of the list in index slot `p`. -/
theorem step_in_wait {Q : PUnit → sProp 𝕄} (p : Fin 2) (b : ℕ) {sp : Space} {s : Shape} {e : EltTy}
    {src : Memref sig .scVector sp s e} {dst : Memref sig .scVector .vmem S1x256 .i32} {sm : DmaSem sig}
    {hsrc : src.view.WordExact} {hdst : dst.view.WordExact}
    (hd : dst = idxSlot p) (hm : sm = inSem p) :
    iprop(idxComing d L I ql p b ∗ waited d L O W ∗ Transfers.MayWaits (tV d L) (default : HIx 1) O)
      ⊢ iprop((iprop(idxHeld d L I ql p b ∗ waited d L O W) -∗ Q ⟨⟩)
      -∗ wp frame (wpE (defs₀ (F := F)) 𝒱₀ (tV d L) none) Set.univ
          (Prog.lift (TpuEff.waitDma2 (p := (tV d L).2) sm src dst hsrc hdst)) Q) := by
  subst hd hm
  unfold idxComing idxHeld waited
  iintro ⟨⟨Hfl, Hr⟩, ⟨%W', %hW, HO⟩, Hmw⟩ Hk
  iapply (Transfers.wp_waitLocalO countersEmb 𝒱₀ (tV d L) none (sem := inSem p) (srcw := src) (dstw := idxSlot p) (k := .ret) (Q := Q)
    (default : HIx 1) (rfl : (idxSlot p).view.dmaCredit = nIn)) $$ [Hfl HO Hmw]
  · isplitl [Hfl]; · iexact Hfl
    isplitl [HO]; · iexact HO
    iapply (Transfers.MayWaits.elim (SemLoc.dma (inSem p))) $$ Hmw
  iintro ⟨⟨Hs, Hb⟩, Hv, HO⟩
  iapply (le_wp_ret _ _ _ _ _)
  iapply Hk
  isplitr [HO]
  · isplitl [Hs]; · iexact Hs
    isplitl [Hv]; · iexact Hv
    iapply (pointsTo_split_subset (q := ql) (f := I) (S := Finset.univ) (Finset.subset_univ (lstSet (256 * b) (256 * (b + 1))))).2
    isplitl [Hb] <;> iassumption
  · iapply (waited_insert (F := F) d L (W := W) hW (SemLoc.dma (inSem p)))
    iexact HO

/-- Start the gather of half `h` of block `b` into row slot `p`, by the words index slot `p` holds. -/
theorem step_gather {Q : PUnit → sProp 𝕄} (hI : ∀ n, (I n).toNat < 100000) (p h : Fin 2) (b : ℕ) (f : S2x256x128.Idx → Elt F .f32)
    {src : Memref sig .scVector .hbm S100000x128 .f32} {dst : Memref sig .scVector .vmem S128x128 .f32} {offs : Memref sig .scVector .vmem S128 .i32}
    {sm : DmaSem sig} {hp : (tV d L).2.kind = .scVector} {hn : S128.numel = S128x128.size gathers_S100000x128_S128x128.axis'}
    {hsrc : src.view.WordExact} {he : EltTy.f32.bits = 32} {hsp : Space.hbm = .hbm ∨ Space.hbm = .shared} {hr : S100000x128.StreamRows 0}
    (hs : src = tabAll) (hd : dst = rowHalf p h) (ho : offs = idxHalf p h) (hm : sm = gatSem h) :
    (iprop((rowLoc d L ↦[(rowHalf p h).view.set]{fullShare} f) ∗ (tabLoc d L ↦[Finset.univ]{q} T)
        ∗ (idxLoc d L ↦[(idxHalf p h).view.set]{fullShare} idxAt I b) ∗ semVal (tV d L, .dma (gatSem h)) 0) : sProp 𝕄)
      ⊢ iprop((gathering d L T I q p h b -∗ Q ⟨⟩)
      -∗ wp frame (wpE (defs₀ (F := F)) 𝒱₀ (tV d L) none) Set.univ
          (SparseCore.enqueueIndirectGather (p := (tV d L).2) hp src dst gathers_S100000x128_S128x128 offs hn sm hsrc he hsp hr) Q) := by
  subst hs hd ho hm
  unfold gathering
  have hin : ∀ x, ((idxHalf p h).view.read (Elt F) (idxAt I b) x).toNat < S100000x128.size gathers_S100000x128_S128x128.axis := fun x => by
    rw [read_idxHalf]; exact hI _
  iintro ⟨Hd, Ht, Ho, Hv⟩ Hk
  iapply (SparseCore.wp_indirectGatherLocal countersEmb 𝒱₀ (tV d L) none (src := tabAll) (dst := rowHalf p h) (offs := idxHalf p h) (sem := gatSem h)
    (hg := gathers_S100000x128_S128x128) (hn := hn) (hp := hp) (hsrc := hsrc) (he := he) (hsp := hsp) (hr := hr) (k := .ret) (Q := Q) (q := q) (qo := fullShare) (fs := T) (fd := f) (fo := idxAt I b)
    (default : HIx 1) nGat (sum_rows p h _) (by decide) hin) $$ [Hd Ht Ho Hv]
  · isplitl [Ht]; · rw [set_tabAll]; iexact Ht
    isplitl [Hd]; · iexact Hd
    isplitl [Ho]; · iexact Ho
    iexact Hv
  iintro Hfl
  iapply (le_wp_ret _ _ _ _ _)
  iapply Hk
  iapply (Transfers.Flight_mono countersEmb (tV d L) ?_)
  rotate_left; · iexact Hfl
  rw [set_tabAll]
  iintro ⟨Ha, Hb, Hc⟩
  isplitl [Ha]
  · iapply (Entails.of_eq (pointsTo_congr (write_rowHalf T I p h b f hn hin)))
    iexact Ha
  isplitl [Hb] <;> iassumption

/-- Wait for a gather. -/
theorem step_gather_wait {Q : PUnit → sProp 𝕄} (p h : Fin 2) (b : ℕ) {sp : Space} {s : Shape} {e : EltTy}
    {src : Memref sig .scVector sp s e} {dst : Memref sig .scVector .vmem S128x128 .f32} {sm : DmaSem sig}
    {hsrc : src.view.WordExact} {hdst : dst.view.WordExact}
    (hd : dst = rowHalf p h) (hm : sm = gatSem h) :
    iprop(gathering d L T I q p h b ∗ waited d L O W ∗ Transfers.MayWaits (tV d L) (default : HIx 1) O)
      ⊢ iprop((iprop((rowLoc d L ↦[(rowHalf p h).view.set]{fullShare} rowAt (looked T I) b) ∗ (tabLoc d L ↦[Finset.univ]{q} T)
          ∗ (idxLoc d L ↦[(idxHalf p h).view.set]{fullShare} idxAt I b) ∗ semVal (tV d L, .dma (gatSem h)) 0 ∗ waited d L O W) -∗ Q ⟨⟩)
      -∗ wp frame (wpE (defs₀ (F := F)) 𝒱₀ (tV d L) none) Set.univ
          (SparseCore.waitIndirectGather (p := (tV d L).2) sm src dst hsrc hdst) Q) := by
  subst hd hm
  unfold gathering waited
  iintro ⟨Hfl, ⟨%W', %hW, HO⟩, Hmw⟩ Hk
  iapply (Transfers.wp_waitLocalO countersEmb 𝒱₀ (tV d L) none (sem := gatSem h) (srcw := src) (dstw := rowHalf p h) (k := .ret) (Q := Q)
    (default : HIx 1) (rfl : (rowHalf p h).view.dmaCredit = nGat)) $$ [Hfl HO Hmw]
  · isplitl [Hfl]; · iexact Hfl
    isplitl [HO]; · iexact HO
    iapply (Transfers.MayWaits.elim (SemLoc.dma (gatSem h))) $$ Hmw
  iintro ⟨⟨Hd, Ht, Ho⟩, Hv, HO⟩
  iapply (le_wp_ret _ _ _ _ _)
  iapply Hk
  isplitl [Hd]; · iexact Hd
  isplitl [Ht]; · iexact Ht
  isplitl [Ho]; · iexact Ho
  isplitl [Hv]; · iexact Hv
  iapply (waited_insert (F := F) d L (W := W) hW (SemLoc.dma (gatSem h)))
  iexact HO

/-- Start the copy of row slot `p`, holding block `b`, to the output. -/
theorem step_out {Q : PUnit → sProp 𝕄} (p : Fin 2) (b : ℕ) (hb : b < 800) (f : S204800x128.Idx → Elt F .f32)
    {src : Memref sig .scVector .vmem S256x128 .f32} {dst : Memref sig .scVector .hbm S256x128 .f32} {sm : DmaSem sig}
    {hsrc : src.view.WordExact} {hdst : dst.view.WordExact} {hsem : DmaTarget.Typed (nD := nD) (τ := τ) (p := (tV d L).2) .vmem (.dma sm) (.here dst)}
    (hs : src = rowSlot p) (hd : dst = outBlk b hb) (hm : sm = outSem p) :
    (iprop((rowLoc d L ↦[(rowSlot p).view.set]{fullShare} rowAt (looked T I) b) ∗ (outLoc d L ↦[rowSet (256 * b) (256 * (b + 1))]{fullShare} f)
        ∗ semVal (tV d L, .dma (outSem p)) 0) : sProp 𝕄)
      ⊢ iprop((rowGoing d L T I p b -∗ Q ⟨⟩)
      -∗ wp frame (wpE (defs₀ (F := F)) 𝒱₀ (tV d L) none) Set.univ
          (Prog.lift (TpuEff.enqueueDma (p := (tV d L).2) src (.here dst) (.dma sm) hsrc hdst hsem)) Q) := by
  subst hs hd hm
  unfold rowGoing
  iintro ⟨Hr, Ho, Hv⟩ Hk
  iapply (Transfers.wp_dmaLocal countersEmb 𝒱₀ (tV d L) none (src := rowSlot p) (dst := outBlk b hb) (sm := .dma (outSem p)) (via := ReadAs.same)
    (q := fullShare) (fs := rowAt (looked T I) b) (Sd := (outBlk b hb).view.set) (fd := f) (k := .ret) (Q := Q) (default : HIx 1) nOut rfl
    (View.dmaCredit_pos _ (by decide)) (Finset.Subset.refl _)) $$ [Hr Ho Hv]
  · isplitl [Hr]; · iexact Hr
    isplitl [Ho]; · rw [set_outBlk]; iexact Ho
    iexact Hv
  iintro Hfl
  iapply (le_wp_ret _ _ _ _ _)
  iapply Hk
  iapply (Transfers.Flight_mono countersEmb (tV d L) ?_)
  rotate_left; · iexact Hfl
  iintro ⟨Ha, Hb⟩
  isplitl [Ha]
  · rw [← set_outBlk b hb]
    iapply (Entails.of_eq (pointsTo_congr (write_outBlk p b hb (looked T I) f)))
    iexact Ha
  · iexact Hb

/-- Wait for the copy of block `b` to the output. -/
theorem step_out_wait {Q : PUnit → sProp 𝕄} (p : Fin 2) (b : ℕ) {sp : Space} {s : Shape} {e : EltTy}
    {src : Memref sig .scVector sp s e} {dst : Memref sig .scVector .hbm S256x128 .f32} {sm : DmaSem sig}
    {hsrc : src.view.WordExact} {hdst : dst.view.WordExact}
    (hb : b < 800) (hd : dst = outBlk b hb) (hm : sm = outSem p) :
    iprop(rowGoing d L T I p b ∗ waited d L O W ∗ Transfers.MayWaits (tV d L) (default : HIx 1) O)
      ⊢ iprop((iprop((outLoc d L ↦[rowSet (256 * b) (256 * (b + 1))]{fullShare} looked T I) ∗ rowFree d L p ∗ waited d L O W) -∗ Q ⟨⟩)
      -∗ wp frame (wpE (defs₀ (F := F)) 𝒱₀ (tV d L) none) Set.univ
          (Prog.lift (TpuEff.waitDma2 (p := (tV d L).2) sm src dst hsrc hdst)) Q) := by
  subst hd hm
  unfold rowGoing rowFree waited
  iintro ⟨Hfl, ⟨%W', %hW, HO⟩, Hmw⟩ Hk
  iapply (Transfers.wp_waitLocalO countersEmb 𝒱₀ (tV d L) none (sem := outSem p) (srcw := src) (dstw := outBlk b hb) (k := .ret) (Q := Q)
    (default : HIx 1) (rfl : (outBlk b hb).view.dmaCredit = nOut)) $$ [Hfl HO Hmw]
  · isplitl [Hfl]; · iexact Hfl
    isplitl [HO]; · iexact HO
    iapply (Transfers.MayWaits.elim (SemLoc.dma (outSem p))) $$ Hmw
  iintro ⟨⟨Ho, Hr⟩, Hv, HO⟩
  iapply (le_wp_ret _ _ _ _ _)
  iapply Hk
  isplitl [Ho]; · iexact Ho
  isplitr [HO]
  · isplitl [Hr]; · iexists _; iexact Hr
    iexact Hv
  · iapply (waited_insert (F := F) d L (W := W) hW (SemLoc.dma (outSem p)))
    iexact HO

end Steps

end Cert.KernelIdeal.Gather

end
-- ==== Proof.Tile.lean ====
/-
  One vector subcore's whole task: the invariant of its loop, one trip of the loop, and the task from its first copy
  to its last wait.
-/
module

public import proofs.«01_k».proof.Proof.Steps

@[expose] public section

noncomputable section

namespace Cert.KernelIdeal.Gather

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 1) (Elt F) ℕ UU ℕ

variable (d : Dev nD) (L : grid0.Coords)
variable (T : S100000x128.Idx → Elt F .f32) (I : S1x204800.Idx → Elt F .i32) (f : S204800x128.Idx → Elt F .f32)
variable (q : PosShare TreeShare) (qs : Fin 2 → PosShare TreeShare)
variable (O : CellTallies nD τ sig (HIx 1)) (W : Waits sig (HIx 1))

/-! ## Rows of the output -/

/-- The output's place in device `d`'s memory. -/
abbrev outL (d : Dev nD) : Loc nD τ sig := (SparseCore.T d).loc main_v2

omit [FloatOps F] in
/-- A range of rows is a first part of it and what follows. -/
theorem rows_split {q : PosShare TreeShare} {g : S204800x128.Idx → Elt F .f32} {a b c : ℕ} (hab : a ≤ b) (hbc : b ≤ c) :
    (outL d ↦[rowSet a c]{q} g : sProp 𝕄) ⊣⊢ iprop((outL d ↦[rowSet a b]{q} g) ∗ outL d ↦[rowSet b c]{q} g) := by
  have e : rowSet b c = rowSet a c \ rowSet a b := by
    ext j; rw [Finset.mem_sdiff, mem_rowSet, mem_rowSet, mem_rowSet]; omega
  have hs : rowSet a b ⊆ rowSet a c := fun j hj => by
    rw [mem_rowSet] at hj ⊢; omega
  rw [e]
  exact pointsTo_split_subset (ℓ := outL d) (S := rowSet a c) (I := rowSet a b) hs

omit [FloatOps F] in
/-- No rows. -/
theorem rows_none {q : PosShare TreeShare} {g : S204800x128.Idx → Elt F .f32} {a b : ℕ} (hab : b ≤ a) :
    (outL d ↦[rowSet a b]{q} g : sProp 𝕄) = iprop(emp) := by
  have e : rowSet a b = ∅ := by
    ext j; rw [mem_rowSet]; simp; omega
  rw [e]; exact pointsTo_empty

/-- Two trips on, the slot is the same. -/
theorem par_add_two (t : ℕ) : par (t + 1 + 1) = par t := Fin.ext (Nat.add_mod_right t 2)
/-- The trip before and the trip after use the same slot. -/
theorem par_pred {t : ℕ} (h : t ≠ 0) : par (t - 1) = par (t + 1) := Fin.ext (by show (t - 1) % 2 = (t + 1) % 2; omega)

/-! ## The invariant -/

/-- The index slot of trip `t`, before the trip: its block on the way, or nothing once the blocks are used up. -/
def ahead (t : ℕ) : sProp 𝕄 :=
  if t < 25 then idxComing d L I (qs (par t)) (par t) (firstBlk L + t) else idxFree d L I (qs (par t)) (par t)

/-- The row slot of the trip before trip `t`: its block on the way out. -/
def behind (t : ℕ) : sProp 𝕄 :=
  if t = 0 then rowFree d L (par (t + 1)) else rowGoing d L T I (par (t + 1)) (firstBlk L + (t - 1))

omit [FloatOps F] in
/-- Before trip `t` of the 25, its block is on the way. -/
theorem ahead_lt {t : ℕ} (h : t < 25) : (ahead d L I qs t : sProp 𝕄) = idxComing d L I (qs (par t)) (par t) (firstBlk L + t) := if_pos h
omit [FloatOps F] in
/-- After the last trip no block is on the way. -/
theorem ahead_end {t : ℕ} (h : ¬ t < 25) : (ahead d L I qs t : sProp 𝕄) = idxFree d L I (qs (par t)) (par t) := if_neg h
omit [FloatOps F] in
/-- Before the first trip no rows are on the way out. -/
theorem behind_zero {t : ℕ} (h : t = 0) : (behind d L T I t : sProp 𝕄) = rowFree d L (par (t + 1)) := if_pos h
omit [FloatOps F] in
/-- Before a later trip the last one's rows are on the way out. -/
theorem behind_pos {t : ℕ} (h : t ≠ 0) : (behind d L T I t : sProp 𝕄) = rowGoing d L T I (par (t + 1)) (firstBlk L + (t - 1)) := if_neg h

/-- What holds before trip `t`. -/
def Between (t : ℕ) : sProp 𝕄 :=
  iprop(Transfers.MayWaits (tV d L) (default : HIx 1) O
    ∗ (tabLoc d L ↦[Finset.univ]{q} T) ∗ semVal (tV d L, .dma (gatSem 0)) 0 ∗ semVal (tV d L, .dma (gatSem 1)) 0
    ∗ waited d L O W
    ∗ ahead d L I qs t ∗ idxFree d L I (qs (par (t + 1))) (par (t + 1))
    ∗ behind d L T I t ∗ rowFree d L (par t)
    ∗ (outL d ↦[rowSet (256 * firstBlk L) (256 * (firstBlk L + (t - 1)))]{fullShare} looked T I)
    ∗ (outL d ↦[rowSet (256 * (firstBlk L + t)) (256 * (firstBlk L + 25))]{fullShare} f))

omit [FloatOps F] in
/-- The invariant, written out. -/
theorem Between_eq (t : ℕ) : (Between d L T I f q qs O W t : sProp 𝕄) =
  iprop(Transfers.MayWaits (tV d L) (default : HIx 1) O
    ∗ (tabLoc d L ↦[Finset.univ]{q} T) ∗ semVal (tV d L, .dma (gatSem 0)) 0 ∗ semVal (tV d L, .dma (gatSem 1)) 0
    ∗ waited d L O W
    ∗ ahead d L I qs t ∗ idxFree d L I (qs (par (t + 1))) (par (t + 1))
    ∗ behind d L T I t ∗ rowFree d L (par t)
    ∗ (outL d ↦[rowSet (256 * firstBlk L) (256 * (firstBlk L + (t - 1)))]{fullShare} looked T I)
    ∗ (outL d ↦[rowSet (256 * (firstBlk L + t)) (256 * (firstBlk L + 25))]{fullShare} f)) := rfl

/-! ## One trip -/

/-- The first part of a trip, which asks for the next block if there is one: what it passes on. -/
def asked (i : grid0.Coords) (k : Fin k0_t1_loop.trips) (v4 : BitVec 32) :
    Σ' (_ : k0_chk3 (usedW k)) (_ : k0_chk2 (usedW k)) (_ : k0_chk1 i k (askedW k) (usedW k) (usedW k) (doneW k) (curW k))
      (_ : BitVec 32) (_ : BitVec 1) (_ : BitVec 1) (_ : BitVec 32) (_ : BitVec 32) (_ : BitVec 32) (_ : BitVec 32), BitVec 1 :=
  let arg6 : BitVec 32 := Scf.iv 0#32 1#32 k
  let v66 : BitVec 32 := Scalar.addi (curW k) v4
  let v68 : BitVec 32 := Scalar.select 1#1 (Scalar.subi (curW k) 1#32) (curW k)
  let v70 : BitVec 32 := Scalar.select (Scalar.cmpi .eq v68 4294967295#32) 24#32 v68
  let v71 : BitVec 32 := Scalar.addi v70 v4
  let v73 : BitVec 32 := Scalar.select 1#1 (Scalar.addi (curW k) 1#32) (curW k)
  let v75 : BitVec 32 := Scalar.select (Scalar.cmpi .eq v73 25#32) 0#32 v73
  let v76 : BitVec 32 := Scalar.addi v75 v4
  let v85 : BitVec 1 := Scalar.andi (Scalar.cmpi .ne v66 v76) (Scalar.xori (Scalar.cmpi .sge arg6 24#32) 1#1)
  ⟨chk3_at k, chk2_at k, chk1_at i k, arg6, Scalar.cmpi .eq arg6 0#32, Scalar.cmpi .eq arg6 24#32, v66, v71, v76,
    Scalar.select (Scalar.andi v85 1#1) (Scalar.addi (askedW k) 1#32) (askedW k), Scalar.cmpi .ne v66 v71⟩

set_option maxHeartbeats 4000000 in
/-- The first part of trip `k`: the copy of the next block into the other index slot is started, if there is a next block. -/
theorem ask (k : Fin k0_t1_loop.trips) {Q : _ → sProp 𝕄} :
    (idxFree d L I (qs (par (k.val + 1))) (par (k.val + 1)) : sProp 𝕄) ⊢ iprop((ahead d L I qs (k.val + 1) -∗ Q (asked L k (baseW L)))
      -∗ wp frame (wpE (defs₀ (F := F)) 𝒱₀ (tV d L) none) Set.univ
        (k0_part1 (F := F) L tabV (Memref.isWhole_whole _) lstV (Memref.isWhole_whole _) outV (Memref.isWhole_whole _) cc0_scratch0
          idxV (Memref.isWhole_whole _) cc0_scoped1 rowV (Memref.isWhole_whole _) cc0_scoped3 (baseW L) 0#32 1#32 k
          (askedW k) (usedW k) (usedW k) (doneW k) (curW k)) Q) := by
  have hk : k.val < 25 := trips_eq ▸ k.isLt
  have hB := firstBlk_le L
  rw [k0_part1_eq_skeleton]; unfold k0_part1_skel asked
  simp only [wp_bind]
  iintro Hi Hk
  iapply (wp_assume _ _ _ _ (chk3_at k))
  iapply (le_wp_ret _ _ _ _ _)
  iapply (wp_assume _ _ _ _ (chk2_at k))
  iapply (le_wp_ret _ _ _ _ _)
  iapply (wp_assume _ _ _ _ (chk1_at L k))
  iapply (le_wp_ret _ _ _ _ _)
  by_cases h : k.val < 24
  · rw [dif_pos ((cond1_iff L k).2 h), wp_bind]
    obtain ⟨e4, e6, e5⟩ := off_ask L k h
    iapply (step_in d L I (qs (par (k.val + 1))) (par (k.val + 1)) (firstBlk L + (k.val + 1)) (by omega)
      (lstBlk_of e5 (by omega) _) (idxSlot_of e4 _) (cell_of _ e6 _)) $$ [Hi]
    · iexact Hi
    iintro Hi
    iapply (le_wp_ret _ _ _ _ _)
    iapply Hk
    rw [ahead_lt d L I qs (by omega)]
    iexact Hi
  · rw [dif_neg (fun c => h ((cond1_iff L k).1 c))]
    iapply (le_wp_ret _ _ _ _ _)
    iapply Hk
    rw [ahead_end d L I qs (by omega)]
    iexact Hi

set_option maxHeartbeats 8000000 in
/-- One trip of the loop, from what holds before it to what holds before the next. -/
theorem trip (hI : ∀ n, (I n).toNat < 100000) (k : Fin k0_t1_loop.trips) {Q : _ → sProp 𝕄} :
    (Between d L T I f q qs O W k.val : sProp 𝕄) ⊢ iprop((Between d L T I f q qs O W (k.val + 1) -∗ Q (accAt (k.val + 1)))
      -∗ wp frame (wpE (defs₀ (F := F)) 𝒱₀ (tV d L) none) Set.univ
        (k0_t1_body (F := F) L tabV (Memref.isWhole_whole _) lstV (Memref.isWhole_whole _) outV (Memref.isWhole_whole _) cc0_scratch0
          idxV (Memref.isWhole_whole _) cc0_scoped1 rowV (Memref.isWhole_whole _) cc0_scoped3 (baseW L) k (accAt k.val)) Q) := by
  have hk : k.val < 25 := trips_eq ▸ k.isLt
  have hB := firstBlk_le L
  obtain ⟨e7, e9, e10, e11, e12, e14⟩ := off_use k
  obtain ⟨e8, e13⟩ := off_blk L k
  rw [← nextAcc_eq L k, show accAt k.val = (askedW k.val, usedW k.val, usedW k.val, doneW k.val, curW k.val) from rfl]
  unfold k0_t1_body
  simp only [k0_part2_eq_skeleton, k0_part3_eq_skeleton, wp_bind]
  unfold k0_part2_skel k0_part3_skel
  simp only [wp_bind, dif_pos (cond2_eq L k), dif_pos (cond5_eq L k), ite_self]
  rw [Between_eq]
  iintro ⟨#Hmw, Ht, Hg0, Hg1, HW, Hah, Hif, Hbe, Hrf, Hdone, Htodo⟩ HQ
  iapply (ask d L I qs k) $$ [Hif]
  · iexact Hif
  iintro Hnext
  -- the block of this trip has come
  ihave Hcome := (Entails.of_eq (ahead_lt d L I qs hk)) $$ Hah
  iapply (step_in_wait d L I (qs (par k.val)) (O := O) (W := W) (par k.val) (firstBlk L + k.val) (idxSlot_of e7 _) (cell_of _ e9 _)) $$ [Hcome HW]
  · isplitl [Hcome]; · iexact Hcome
    isplitl [HW]; · iexact HW
    iexact Hmw
  iintro ⟨Hix, HW⟩
  -- both slots in halves, the table in two shares
  ihave Hix := (Entails.of_eq (show (idxHeld d L I (qs (par k.val)) (par k.val) (firstBlk L + k.val) : sProp 𝕄) = _ from rfl)) $$ Hix
  unfold idxHeld
  icases Hix with ⟨Hix, Hiv, Hil⟩
  unfold rowFree
  icases Hrf with ⟨⟨%fr, Hr⟩, Hrv⟩
  ihave Hix := (pointsTo_split_subset (q := fullShare) (f := idxAt I (firstBlk L + k.val)) (idxHalf_subset (par k.val))).1 $$ Hix
  icases Hix with ⟨Hi0, Hi1⟩
  ihave Hr := (pointsTo_split_subset (q := fullShare) (f := fr) (rowHalf_subset (par k.val))).1 $$ Hr
  icases Hr with ⟨Hr0, Hr1⟩
  ihave Ht := (pointsTo_share (PosShare.mem_left_op_right q)).1 $$ Ht
  icases Ht with ⟨Ht0, Ht1⟩
  -- the two gathers, then their waits
  iapply (step_gather d L T I q.left hI (par k.val) 0 (firstBlk L + k.val) fr rfl (congrArg (fun v => Memref.slice v _ _) (rowSlot_of e10 _))
    (congrArg (fun v => (Memref.slice v _ _).squeeze S128 squeezes_S1x128_S128) (idxSlot_of e11 _)) rfl) $$ [Hr0 Ht0 Hi0 Hg0]
  · isplitl [Hr0]; · iexact Hr0
    isplitl [Ht0]; · iexact Ht0
    isplitl [Hi0]; · iexact Hi0
    iexact Hg0
  iintro Hg0
  ihave Hi1 := (Entails.of_eq (congrArg (fun S => (idxLoc d L ↦[S]{fullShare} idxAt I (firstBlk L + k.val) : sProp 𝕄)) (idxSlot_sdiff (par k.val)))) $$ Hi1
  ihave Hr1 := (Entails.of_eq (congrArg (fun S => (rowLoc d L ↦[S]{fullShare} fr : sProp 𝕄)) (rowSlot_sdiff (par k.val)))) $$ Hr1
  iapply (le_wp_ret _ _ _ _ _)
  iapply (step_gather d L T I q.right hI (par k.val) 1 (firstBlk L + k.val) fr rfl (congrArg (fun v => Memref.slice v _ _) (rowSlot_of e10 _))
    (congrArg (fun v => (Memref.slice v _ _).squeeze S128 squeezes_S1x128_S128) (idxSlot_of e11 _)) rfl) $$ [Hr1 Ht1 Hi1 Hg1]
  · isplitl [Hr1]; · iexact Hr1
    isplitl [Ht1]; · iexact Ht1
    isplitl [Hi1]; · iexact Hi1
    iexact Hg1
  iintro Hg1
  iapply (step_gather_wait d L T I q.left (O := O) (W := W) (par k.val) 0 (firstBlk L + k.val) (congrArg (fun v => Memref.slice v _ _) (rowSlot_of e10 _)) rfl) $$ [Hg0 HW]
  · isplitl [Hg0]; · iexact Hg0
    isplitl [HW]; · iexact HW
    iexact Hmw
  iintro ⟨Hr0, Ht0, Hi0, Hg0, HW⟩
  iapply (step_gather_wait d L T I q.right (O := O) (W := W) (par k.val) 1 (firstBlk L + k.val) (congrArg (fun v => Memref.slice v _ _) (rowSlot_of e10 _)) rfl) $$ [Hg1 HW]
  · isplitl [Hg1]; · iexact Hg1
    isplitl [HW]; · iexact HW
    iexact Hmw
  iintro ⟨Hr1, Ht1, Hi1, Hg1, HW⟩
  iapply (le_wp_ret _ _ _ _ _)
  -- the halves together again
  ihave Hi1 := (Entails.of_eq (congrArg (fun S => (idxLoc d L ↦[S]{fullShare} idxAt I (firstBlk L + k.val) : sProp 𝕄)) (idxSlot_sdiff (par k.val)).symm)) $$ Hi1
  ihave Hr1 := (Entails.of_eq (congrArg (fun S => (rowLoc d L ↦[S]{fullShare} rowAt (looked T I) (firstBlk L + k.val) : sProp 𝕄)) (rowSlot_sdiff (par k.val)).symm)) $$ Hr1
  ihave Hix := (pointsTo_split_subset (ℓ := idxLoc d L) (q := fullShare) (f := idxAt I (firstBlk L + k.val)) (idxHalf_subset (par k.val))).2 $$ [Hi0 Hi1]
  · isplitl [Hi0] <;> iassumption
  ihave Hr := (pointsTo_split_subset (ℓ := rowLoc d L) (q := fullShare) (f := rowAt (looked T I) (firstBlk L + k.val)) (rowHalf_subset (par k.val))).2 $$ [Hr0 Hr1]
  · isplitl [Hr0] <;> iassumption
  ihave Ht := (pointsTo_share (PosShare.mem_left_op_right q)).2 $$ [Ht0 Ht1]
  · isplitl [Ht0] <;> iassumption
  -- the rows go out to their block
  ihave Htodo := (rows_split (F := F) d (g := f) (q := fullShare) (a := 256 * (firstBlk L + k.val)) (b := 256 * (firstBlk L + (k.val + 1))) (c := 256 * (firstBlk L + 25))
    (by omega) (by omega)).1 $$ Htodo
  icases Htodo with ⟨Hblk, Htodo⟩
  iapply (step_out d L T I (par k.val) (firstBlk L + k.val) (by omega) f (rowSlot_of e12 _) (outBlk_of e13 (by omega) _) (cell_of _ e14 _)) $$ [Hr Hblk Hrv]
  · isplitl [Hr]; · iexact Hr
    isplitl [Hblk]; · iexact Hblk
    iexact Hrv
  iintro Hgo
  ihave Hix := (show (iprop((idxLoc d L ↦[(idxSlot (par k.val)).view.set]{fullShare} idxAt I (firstBlk L + k.val)) ∗ semVal (tV d L, .dma (inSem (par k.val))) 0
      ∗ lstLoc d L ↦[Finset.univ]{qs (par k.val)} I) : sProp 𝕄) ⊢ idxFree d L I (qs (par (k.val + 1 + 1))) (par (k.val + 1 + 1)) by
    rw [par_add_two]; exact idxHeld_free d L I (qs (par k.val)) (par k.val) (firstBlk L + k.val)) $$ [Hix Hiv Hil]
  · isplitl [Hix]; · iexact Hix
    isplitl [Hiv] <;> iassumption
  ihave Hgo := (Entails.of_eq (show (rowGoing d L T I (par k.val) (firstBlk L + k.val) : sProp 𝕄) = behind d L T I (k.val + 1) by
    rw [behind_pos d L T I (Nat.succ_ne_zero _), par_add_two]; rfl)) $$ Hgo
  by_cases h0 : k.val = 0
  · -- the first trip: nothing is on its way out yet
    rw [dif_neg (fun c => (cond7_iff L k).1 c h0)]
    iapply (le_wp_ret _ _ _ _ _)
    simp only [asked, nextAcc]
    iapply HQ
    rw [Between_eq]
    isplitr; · iexact Hmw
    isplitl [Ht]; · iexact Ht
    isplitl [Hg0]; · iexact Hg0
    isplitl [Hg1]; · iexact Hg1
    isplitl [HW]; · iexact HW
    isplitl [Hnext]; · iexact Hnext
    isplitl [Hix]; · iexact Hix
    isplitl [Hgo]; · iexact Hgo
    isplitl [Hbe]
    · iapply (Entails.of_eq (behind_zero d L T I h0)); iexact Hbe
    isplitl [Hdone]
    · iapply (Entails.of_eq (show (outL d ↦[rowSet (256 * firstBlk L) (256 * (firstBlk L + (k.val - 1)))]{fullShare} looked T I : sProp 𝕄)
        = outL d ↦[rowSet (256 * firstBlk L) (256 * (firstBlk L + (k.val + 1 - 1)))]{fullShare} looked T I by rw [h0]))
      iexact Hdone
    iexact Htodo
  · -- the block of the trip before has gone out
    obtain ⟨e15, e17, e16⟩ := off_done L k h0
    simp only [dif_pos ((cond7_iff L k).2 h0), wp_bind]
    ihave Hbe := (Entails.of_eq (behind_pos d L T I h0)) $$ Hbe
    iapply (step_out_wait d L T I (O := O) (W := W) (par (k.val + 1)) (firstBlk L + (k.val - 1)) (by omega) (outBlk_of e16 (by omega) _)
      (cell_of _ (par_pred h0 ▸ e17) _)) $$ [Hbe HW]
    · isplitl [Hbe]; · iexact Hbe
      isplitl [HW]; · iexact HW
      iexact Hmw
    iintro ⟨Hblk, Hrf, HW⟩
    iapply (le_wp_ret _ _ _ _ _)
    simp only [asked, nextAcc]
    iapply HQ
    rw [Between_eq]
    isplitr; · iexact Hmw
    isplitl [Ht]; · iexact Ht
    isplitl [Hg0]; · iexact Hg0
    isplitl [Hg1]; · iexact Hg1
    isplitl [HW]; · iexact HW
    isplitl [Hnext]; · iexact Hnext
    isplitl [Hix]; · iexact Hix
    isplitl [Hgo]; · iexact Hgo
    isplitl [Hrf]; · iexact Hrf
    isplitl [Hdone Hblk]
    · ihave Hblk := (Entails.of_eq (show (outL d ↦[rowSet (256 * (firstBlk L + (k.val - 1))) (256 * (firstBlk L + (k.val - 1) + 1))]{fullShare} looked T I : sProp 𝕄)
        = outL d ↦[rowSet (256 * (firstBlk L + (k.val - 1))) (256 * (firstBlk L + (k.val + 1 - 1)))]{fullShare} looked T I by
          rw [show firstBlk L + (k.val - 1) + 1 = firstBlk L + (k.val + 1 - 1) by omega])) $$ Hblk
      iapply (rows_split (F := F) d (g := looked T I) (q := fullShare) (a := 256 * firstBlk L) (b := 256 * (firstBlk L + (k.val - 1)))
        (c := 256 * (firstBlk L + (k.val + 1 - 1))) (by omega) (by omega)).2
      isplitl [Hdone] <;> iassumption
    iexact Htodo

/-! ## The task -/

/-- The loop, from its first trip to its last. -/
theorem loop_run (hI : ∀ n, (I n).toNat < 100000) {Q : _ → sProp 𝕄} :
    (Between d L T I f q qs O W 0 : sProp 𝕄) ⊢ iprop((Between d L T I f q qs O W 25 -∗ Q (accAt 25))
      -∗ wp frame (wpE (defs₀ (F := F)) 𝒱₀ (tV d L) none) Set.univ
        (Scf.Loop.for k0_t1_loop k0_t1_ok (Scalar.addi 0#32 1#32, 0#32, 0#32, 0#32, 0#32)
          (k0_t1_body (F := F) L tabV (Memref.isWhole_whole _) lstV (Memref.isWhole_whole _) outV (Memref.isWhole_whole _) cc0_scratch0
            idxV (Memref.isWhole_whole _) cc0_scoped1 rowV (Memref.isWhole_whole _) cc0_scoped3 (baseW L))) Q) := by
  iintro HB HQ
  iapply (Scf.wp_for frame (wpE (defs₀ (F := F)) 𝒱₀ (tV d L) none) Set.univ k0_t1_loop.lb k0_t1_loop.ub k0_t1_loop.st k0_t1_ok _ _
    (fun t acc => iprop(⌜acc = accAt t⌝ ∗ Between d L T I f q qs O W t)) (fun k acc => by
      iintro ⟨%hacc, HB⟩
      subst hacc
      iapply (trip d L T I f q qs O W hI k) $$ [HB]
      · iexact HB
      iintro HB
      isplitr
      · ipureintro; rfl
      iexact HB))
  isplitl [HB]
  · isplitr
    · ipureintro; exact accAt_zero
    iexact HB
  iintro %acc ⟨%hacc, HB⟩
  subst hacc
  rw [show Scf.trips k0_t1_loop.lb k0_t1_loop.ub k0_t1_loop.st = 25 from trips_eq]
  iapply HQ
  iexact HB

/-- What the task starts from, its output rows at `g`; what it ends with. -/
def taskRes (g : S204800x128.Idx → Elt F .f32) : sProp 𝕄 :=
  iprop((tabLoc d L ↦[Finset.univ]{q} T) ∗ semVal (tV d L, .dma (gatSem 0)) 0 ∗ semVal (tV d L, .dma (gatSem 1)) 0
    ∗ waited d L O W
    ∗ idxFree d L I (qs 0) 0 ∗ idxFree d L I (qs 1) 1 ∗ rowFree d L 0 ∗ rowFree d L 1
    ∗ (outL d ↦[rowSet (256 * firstBlk L) (256 * (firstBlk L + 25))]{fullShare} g))

set_option maxHeartbeats 4000000 in
/-- The whole task: the subcore's rows of the output come to hold the rows its part of the list names. -/
theorem task (hI : ∀ n, (I n).toNat < 100000) {Q : PUnit → sProp 𝕄} :
    (iprop(Transfers.MayWaits (tV d L) (default : HIx 1) O ∗ taskRes d L T I q qs O W f) : sProp 𝕄)
      ⊢ iprop((taskRes d L T I q qs O W (looked T I) -∗ Q ⟨⟩)
      -∗ wp frame (wpE (defs₀ (F := F)) 𝒱₀ (tV d L) none) Set.univ
        (cc0_gather_kernel (F := F) L tabV (Memref.isWhole_whole _) lstV (Memref.isWhole_whole _) outV (Memref.isWhole_whole _) cc0_scratch0
          idxV (Memref.isWhole_whole _) cc0_scoped1 rowV (Memref.isWhole_whole _) cc0_scoped3) Q) := by
  have hB := firstBlk_le L
  obtain ⟨e1, e3, e2⟩ := off_first L
  obtain ⟨e21, e20, e19⟩ := off_last L
  rw [cc0_gather_kernel_eq_skeleton]; unfold cc0_gather_kernel_skel
  rw [k0_part4_eq_skeleton, k0_part5_eq_skeleton]; unfold k0_part4_skel k0_part5_skel
  simp only [wp_bind]
  unfold taskRes
  iintro ⟨#Hmw, Ht, Hg0, Hg1, HW, Hi0, Hi1, Hr0, Hr1, Ho⟩ HQ
  iapply (step_in d L I (qs (par 0)) (par 0) (firstBlk L + 0) (by omega) (lstBlk_of e2 (by omega) _) (idxSlot_of e1 _) (cell_of _ e3 _)) $$ [Hi0]
  · iexact Hi0
  iintro Hi0
  iapply (le_wp_ret _ _ _ _ _)
  ihave Hah := (Entails.of_eq (ahead_lt d L I qs (t := 0) (by decide)).symm) $$ Hi0
  ihave Hbe := (Entails.of_eq (show rowFree d L 1 = behind d L T I 0 from (behind_zero d L T I (t := 0) rfl).symm)) $$ Hr1
  iapply (loop_run d L T I f q qs O W hI) $$ [Ht Hg0 Hg1 HW Hah Hi1 Hbe Hr0 Ho]
  · rw [Between_eq]
    isplitr; · iexact Hmw
    isplitl [Ht]; · iexact Ht
    isplitl [Hg0]; · iexact Hg0
    isplitl [Hg1]; · iexact Hg1
    isplitl [HW]; · iexact HW
    isplitl [Hah]; · iexact Hah
    isplitl [Hi1]; · iexact Hi1
    isplitl [Hbe]; · iexact Hbe
    isplitl [Hr0]; · iexact Hr0
    isplitr
    · rw [rows_none (F := F) d (by omega)]; iempintro
    iexact Ho
  iintro HB
  iapply (wp_assume _ _ _ _ (chk5_at L))
  iapply (le_wp_ret _ _ _ _ _)
  iapply (wp_assume _ _ _ _ chk4_at)
  iapply (le_wp_ret _ _ _ _ _)
  iapply (le_wp_ret _ _ _ _ _)
  ihave HB := (Entails.of_eq (Between_eq d L T I f q qs O W 25)) $$ HB
  icases HB with ⟨-, Ht, Hg0, Hg1, HW, Hi1, Hi0, Hbe, Hr1, Hdone, Htodo⟩
  ihave Hbe := (Entails.of_eq (behind_pos d L T I (t := 25) (by decide))) $$ Hbe
  iapply (step_out_wait d L T I (O := O) (W := W) (par 26) (firstBlk L + 24) (by omega) (outBlk_of e19 (by omega) _) (cell_of _ e20 _)) $$ [Hbe HW]
  · isplitl [Hbe]; · iexact Hbe
    isplitl [HW]; · iexact HW
    iexact Hmw
  iintro ⟨Hblk, Hr0, HW⟩
  iapply (le_wp_ret _ _ _ _ _)
  iapply HQ
  isplitl [Ht]; · iexact Ht
  isplitl [Hg0]; · iexact Hg0
  isplitl [Hg1]; · iexact Hg1
  isplitl [HW]; · iexact HW
  isplitl [Hi0]; · iexact Hi0
  isplitl [Hi1]; · iapply (Entails.of_eq (ahead_end d L I qs (t := 25) (by decide))); iexact Hi1
  isplitl [Hr0]; · iexact Hr0
  isplitl [Hr1]; · iexact Hr1
  iapply (rows_split (F := F) d (g := looked T I) (q := fullShare) (a := 256 * firstBlk L) (b := 256 * (firstBlk L + 24))
    (c := 256 * (firstBlk L + 25)) (by omega) (by omega)).2
  isplitl [Hdone] <;> iassumption

end Cert.KernelIdeal.Gather

end
-- ==== Proof.Launch.lean ====
/-
  The launch: what the call hands each core and each core its subcores, how that divides and comes together again, a
  subcore's task as the launch states it.
-/
module

public import proofs.«01_k».proof.Proof.Tile

@[expose] public section

noncomputable section

namespace Cert.KernelIdeal.Gather

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 1) (Elt F) ℕ UU ℕ

/-! ## What is handed out -/

/-- The table and the list, as the TensorCore names them. -/
abbrev tabL (d : Dev nD) : Loc nD τ sig := (SparseCore.T d).loc main_arg1
/-- The list, as the TensorCore names it. -/
abbrev lstL (d : Dev nD) : Loc nD τ sig := (SparseCore.T d).loc main_v1

/-- Core `c`'s share of the arrays only read; subcore `s`'s share of that. -/
abbrev shC (c : Fin 2) : PosShare TreeShare := pieceOf fullShare 2 (by decide) c
/-- Subcore `s`'s share of the arrays only read, a part of its core's. -/
abbrev shT (c : Fin 2) (s : Fin 16) : PosShare TreeShare := pieceOf (shC c) 16 (by decide) s

/-- The rows of the output core `c` writes; those its subcore `s` does. -/
abbrev rowsC (c : Fin 2) : Finset S204800x128.Idx := rowSet (256 * (25 * (16 * c.val))) (256 * (25 * (16 * c.val) + 400))
/-- The rows of the output that subcore `s` of core `c` writes. -/
abbrev rowsT (c : Fin 2) (s : Fin 16) : Finset S204800x128.Idx :=
  rowSet (256 * (25 * (16 * c.val + s.val))) (256 * (25 * (16 * c.val + s.val) + 25))

variable (T : Dev nD → S100000x128.Idx → Elt F .f32) (I : Dev nD → S1x204800.Idx → Elt F .i32) (f : Dev nD → S204800x128.Idx → Elt F .f32)

/-- What core `c` is handed, its rows of the output at `g`. -/
abbrev resC (d : Dev nD) (c : Fin 2) (g : S204800x128.Idx → Elt F .f32) : sProp 𝕄 :=
  iprop((tabL d ↦[Finset.univ]{shC c} T d) ∗ (lstL d ↦[Finset.univ]{shC c} I d) ∗ outL d ↦[rowsC c]{fullShare} g)
/-- What its subcore `s` is handed. -/
abbrev resT (d : Dev nD) (c : Fin 2) (s : Fin 16) (g : S204800x128.Idx → Elt F .f32) : sProp 𝕄 :=
  iprop((tabL d ↦[Finset.univ]{shT c s} T d) ∗ (lstL d ↦[Finset.univ]{shT c s} I d) ∗ outL d ↦[rowsT c s]{fullShare} g)

/-- The call's payloads: the rows of the output go out at `f` and come back looked up. -/
def P : (K (F := F)).Pay (nD := nD) (Val := Elt F) (Name := ℕ) (U := UU) where
  st := fun q d c => match q with | 0 => resC T I d (Fin.cast nCore_zero c) (f d)
  dn := fun q d c => match q with | 0 => resC T I d (Fin.cast nCore_zero c) (looked (T d) (I d))
  go := fun q d c s => match q with | 0 => resT T I d (Fin.cast nCore_zero c) (Fin.cast nSub_zero s) (f d)
  td := fun q d c s => match q with | 0 => resT T I d (Fin.cast nCore_zero c) (Fin.cast nSub_zero s) (looked (T d) (I d))
  x := fun _ _ => iprop(emp)

/-- The payloads may be kept between a sender and its receiver. -/
instance P_storable : (P (F := F) T I f).IsStorable where
  st q d c := match q with
    | 0 => (inferInstance : BI.Storable (upEmb : UEmb _ 𝕄) (resC T I d (Fin.cast nCore_zero c) (f d)))
  dn q d c := match q with
    | 0 => (inferInstance : BI.Storable (upEmb : UEmb _ 𝕄) (resC T I d (Fin.cast nCore_zero c) (looked (T d) (I d))))
  go q d c s := match q with
    | 0 => (inferInstance : BI.Storable (upEmb : UEmb _ 𝕄) (resT T I d (Fin.cast nCore_zero c) (Fin.cast nSub_zero s) (f d)))
  td q d c s := match q with
    | 0 => (inferInstance : BI.Storable (upEmb : UEmb _ 𝕄) (resT T I d (Fin.cast nCore_zero c) (Fin.cast nSub_zero s) (looked (T d) (I d))))

/-! ## How it divides -/

omit [FloatOps F] in
/-- `n` runs of `k` rows each are the rows from the first to the last. -/
theorem rows_runs (d : Dev nD) (g : S204800x128.Idx → Elt F .f32) (n k : ℕ) (R : Fin n → Finset S204800x128.Idx) (A : Finset S204800x128.Idx)
    (a : ℕ) (hR : ∀ i j, j ∈ R i ↔ a + k * i.val ≤ (j 0).val ∧ (j 0).val < a + k * i.val + k)
    (hA : ∀ j, j ∈ A ↔ a ≤ (j 0).val ∧ (j 0).val < a + k * n) :
    (outL d ↦[A]{fullShare} g : sProp 𝕄) = bigSep Finset.univ fun i : Fin n => outL d ↦[R i]{fullShare} g := by
  have hd : ∀ i ∈ (Finset.univ : Finset (Fin n)), ∀ i' ∈ (Finset.univ : Finset (Fin n)), i ≠ i' → Disjoint (R i) (R i') := by
    intro i _ i' _ hne
    refine Finset.disjoint_left.mpr fun j h h' => hne (Fin.ext ?_)
    have h1 := (hR i j).mp h
    have h2 := (hR i' j).mp h'
    rcases Nat.lt_trichotomy i.val i'.val with hl | he | hl
    · have := Nat.mul_le_mul_left k (Nat.succ_le_of_lt hl); rw [Nat.mul_succ] at this; omega
    · exact he
    · have := Nat.mul_le_mul_left k (Nat.succ_le_of_lt hl); rw [Nat.mul_succ] at this; omega
  have hc : A = (Finset.univ : Finset (Fin n)).biUnion R := by
    ext j
    rw [Finset.mem_biUnion, hA]
    constructor
    · rintro ⟨h1, h2⟩
      have hk : 0 < k := by rcases Nat.eq_zero_or_pos k with h | h; · subst h; omega
                            exact h
      have hm := Nat.div_add_mod ((j 0).val - a) k
      have hl := Nat.mod_lt ((j 0).val - a) hk
      have hlt : ((j 0).val - a) / k < n := (Nat.div_lt_iff_lt_mul hk).mpr (by rw [Nat.mul_comm]; omega)
      refine ⟨⟨_, hlt⟩, Finset.mem_univ _, (hR _ j).mpr ⟨?_, ?_⟩⟩
      · show a + k * (((j 0).val - a) / k) ≤ _; omega
      · show _ < a + k * (((j 0).val - a) / k) + k; omega
    · rintro ⟨i, -, hi⟩
      have h1 := (hR i j).mp hi
      have h2 := Nat.mul_le_mul_left k (Nat.succ_le_of_lt i.isLt); rw [Nat.mul_succ] at h2
      omega
  rw [hc]
  exact pointsTo_biUnion (ℓ := outL d) Finset.univ R hd

omit [FloatOps F] in
/-- A core's rows are its subcores'. -/
theorem rows_tiles (d : Dev nD) (c : Fin 2) (g : S204800x128.Idx → Elt F .f32) :
    (outL d ↦[rowsC c]{fullShare} g : sProp 𝕄) = bigSep Finset.univ fun s : Fin 16 => outL d ↦[rowsT c s]{fullShare} g :=
  rows_runs d g 16 6400 (rowsT c) (rowsC c) (256 * (25 * (16 * c.val))) (fun s j => by rw [mem_rowSet]; omega) (fun j => by rw [mem_rowSet]; omega)

omit [FloatOps F] in
/-- The output's rows are the cores'. -/
theorem rows_cores (d : Dev nD) (g : S204800x128.Idx → Elt F .f32) :
    (outL d ↦{fullShare} g : sProp 𝕄) = bigSep Finset.univ fun c : Fin 2 => outL d ↦[rowsC c]{fullShare} g :=
  rows_runs d g 2 102400 rowsC Finset.univ 0 (fun c j => by rw [mem_rowSet]; omega)
    (fun j => by have h : (j 0).val < 204800 := (j 0).isLt
                 simp only [Finset.mem_univ, true_iff]; omega)

omit [FloatOps F] in
/-- What a core is handed is what its subcores are. -/
theorem resC_tiles (d : Dev nD) (c : Fin 2) (g : S204800x128.Idx → Elt F .f32) :
    (resC T I d c g : sProp 𝕄) = bigSep Finset.univ fun s : Fin 16 => resT T I d c s g := by
  rw [bigSep_sep', bigSep_sep', ← rows_tiles, ← pointsTo_piecesOf, ← pointsTo_piecesOf]

omit [FloatOps F] in
/-- The three arrays, whole, are what the cores are handed. -/
theorem whole_cores (d : Dev nD) (g : S204800x128.Idx → Elt F .f32) :
    (iprop((tabL d ↦{fullShare} T d) ∗ (lstL d ↦{fullShare} I d) ∗ outL d ↦{fullShare} g) : sProp 𝕄)
      = bigSep Finset.univ fun c : Fin 2 => resC T I d c g := by
  rw [bigSep_sep', bigSep_sep', ← rows_cores, ← pointsTo_piecesOf, ← pointsTo_piecesOf]

/-- A thing for each subcore of the call is one for each of sixteen. -/
theorem bigSep_subs (Φ : Fin 16 → sProp 𝕄) :
    (bigSep Finset.univ fun s : Fin ((K (F := F)).nSub 0) => Φ (Fin.cast nSub_zero s)) = bigSep Finset.univ Φ :=
  bigSep_congr fun _ _ => congrArg Φ (Fin.ext rfl)
/-- A thing for each core of the call is one for each of two. -/
theorem bigSep_cores (Φ : Fin 2 → sProp 𝕄) :
    (bigSep Finset.univ fun c : Fin ((K (F := F)).nCore 0) => Φ (Fin.cast nCore_zero c)) = bigSep Finset.univ Φ :=
  bigSep_congr fun _ _ => congrArg Φ (Fin.ext rfl)

/-- Each core deals what it is handed to its subcores, and gathers it up again. -/
theorem vecSplit : (K (F := F)).VecSplit' (P T I f) 0 := by
  intro d c
  show resC T I d (Fin.cast nCore_zero c) (f d) ⊢ |={Set.univ}=> iprop(
      (bigSep Finset.univ fun s : Fin ((K (F := F)).nSub 0) => resT T I d (Fin.cast nCore_zero c) (Fin.cast nSub_zero s) (f d))
      ∗ ((bigSep Finset.univ fun s : Fin ((K (F := F)).nSub 0) => resT T I d (Fin.cast nCore_zero c) (Fin.cast nSub_zero s) (looked (T d) (I d)))
          -∗ resC T I d (Fin.cast nCore_zero c) (looked (T d) (I d))))
  rw [bigSep_subs (F := F) (fun s => resT T I d (Fin.cast nCore_zero c) s (f d)),
    bigSep_subs (F := F) (fun s => resT T I d (Fin.cast nCore_zero c) s (looked (T d) (I d))), ← resC_tiles, ← resC_tiles]
  iintro H; imodintro
  isplitl [H]; · iexact H
  iintro H; iexact H

/-! ## A subcore's cells and buffers -/

section Tile

variable (d : Dev nD) (L : grid0.Coords)

/-- A cell of the subcore's own. -/
abbrev gcell (a : DmaSem sig) : GSem nD τ sig := (tV d L, .dma a)

omit [FloatOps F] in
/-- Different semaphores have different cells. -/
theorem gcell_ne {a b : DmaSem sig} (h : a ≠ b) : gcell d L a ≠ gcell d L b := fun e => h (SemLoc.dma.inj (Prod.mk.inj e).2)
omit [FloatOps F] in
/-- A cell scoped to vector subcores is among the subcore's own. -/
theorem gcell_mem {a : DmaSem sig} (h : (SemLoc.dma a : SemLoc sig).isScoped .scVector = true) : gcell d L a ∈ ownCells (tV d L) :=
  mem_ownCells.mpr ⟨rfl, h⟩

omit [FloatOps F] in
/-- The six cells are among the subcore's own. -/
theorem ownSems_tV :
    (ownSems0 (tV d L) : sProp 𝕄)
      = iprop(semVal (gcell d L (inSem 0)) 0 ∗ semVal (gcell d L (inSem 1)) 0 ∗ semVal (gcell d L (outSem 0)) 0 ∗ semVal (gcell d L (outSem 1)) 0
          ∗ semVal (gcell d L (gatSem 0)) 0 ∗ semVal (gcell d L (gatSem 1)) 0
          ∗ bigSep (((((((ownCells (tV d L)).erase (gcell d L (inSem 0))).erase (gcell d L (inSem 1))).erase (gcell d L (outSem 0))).erase
              (gcell d L (outSem 1))).erase (gcell d L (gatSem 0))).erase (gcell d L (gatSem 1))) fun g => semVal g 0) := by
  unfold SparseCore.Cfg.ownSems0
  have h1 : inSem 1 ≠ inSem 0 := by decide
  have h2 : outSem 0 ≠ inSem 0 ∧ outSem 0 ≠ inSem 1 := by decide
  have h3 : outSem 1 ≠ inSem 0 ∧ outSem 1 ≠ inSem 1 ∧ outSem 1 ≠ outSem 0 := by decide
  have h4 : gatSem 0 ≠ inSem 0 ∧ gatSem 0 ≠ inSem 1 ∧ gatSem 0 ≠ outSem 0 ∧ gatSem 0 ≠ outSem 1 := by decide
  have h5 : gatSem 1 ≠ inSem 0 ∧ gatSem 1 ≠ inSem 1 ∧ gatSem 1 ≠ outSem 0 ∧ gatSem 1 ≠ outSem 1 ∧ gatSem 1 ≠ gatSem 0 := by decide
  rw [SparseCore.bigSep_erase' (gcell_mem d L (a := inSem 0) (by decide)),
    SparseCore.bigSep_erase' (Finset.mem_erase.mpr ⟨gcell_ne d L h1, gcell_mem d L (a := inSem 1) (by decide)⟩),
    SparseCore.bigSep_erase' (Finset.mem_erase.mpr ⟨gcell_ne d L h2.2, Finset.mem_erase.mpr ⟨gcell_ne d L h2.1, gcell_mem d L (a := outSem 0) (by decide)⟩⟩),
    SparseCore.bigSep_erase' (Finset.mem_erase.mpr ⟨gcell_ne d L h3.2.2, Finset.mem_erase.mpr ⟨gcell_ne d L h3.2.1, Finset.mem_erase.mpr
      ⟨gcell_ne d L h3.1, gcell_mem d L (a := outSem 1) (by decide)⟩⟩⟩),
    SparseCore.bigSep_erase' (Finset.mem_erase.mpr ⟨gcell_ne d L h4.2.2.2, Finset.mem_erase.mpr ⟨gcell_ne d L h4.2.2.1, Finset.mem_erase.mpr
      ⟨gcell_ne d L h4.2.1, Finset.mem_erase.mpr ⟨gcell_ne d L h4.1, gcell_mem d L (a := gatSem 0) (by decide)⟩⟩⟩⟩),
    SparseCore.bigSep_erase' (Finset.mem_erase.mpr ⟨gcell_ne d L h5.2.2.2.2, Finset.mem_erase.mpr ⟨gcell_ne d L h5.2.2.2.1, Finset.mem_erase.mpr
      ⟨gcell_ne d L h5.2.2.1, Finset.mem_erase.mpr ⟨gcell_ne d L h5.2.1, Finset.mem_erase.mpr ⟨gcell_ne d L h5.1, gcell_mem d L (a := gatSem 1) (by decide)⟩⟩⟩⟩⟩)]

omit [FloatOps F] in
/-- The two buffers are among the subcore's own. -/
theorem ownBufs_tV :
    (ownBufs (tV d L) : sProp 𝕄)
      = iprop((∃ f : S2x1x256.Idx → Elt F .i32, idxLoc d L ↦{fullShare} f) ∗ (∃ f : S2x256x128.Idx → Elt F .f32, rowLoc d L ↦{fullShare} f)
          ∗ bigSep (((ownRefs (τ := τ) (.scVector (cV L) (jV L))).erase ((Proc.scVector (cV L) (jV L)).devRef cc0_scoped0)).erase
              ((Proc.scVector (cV L) (jV L)).devRef cc0_scoped2))
              fun b => iprop(∃ f, ((d, b) : Loc nD τ sig) ↦{fullShare} f)) := by
  unfold SparseCore.Cfg.ownBufs
  refine (SparseCore.bigSep_erase' (SparseCore.Cfg.mem_ownRefs_of_owner (p := Proc.scVector (cV L) (jV L))
    (b := (Proc.scVector (cV L) (jV L)).devRef cc0_scoped0) rfl)).trans ?_
  rw [SparseCore.bigSep_erase' (Finset.mem_erase.mpr ⟨fun e => absurd (Proc.devRef_injective _ e) (show (cc0_scoped2 : Ref sig .scVector) ≠ cc0_scoped0 by decide),
    SparseCore.Cfg.mem_ownRefs_of_owner (p := Proc.scVector (cV L) (jV L)) (b := (Proc.scVector (cV L) (jV L)).devRef cc0_scoped2) rfl⟩)]
  rfl

omit [FloatOps F] in
/-- The index buffer is its two slots. -/
theorem idx_slots : (iprop(∃ f : S2x1x256.Idx → Elt F .i32, idxLoc d L ↦{fullShare} f) : sProp 𝕄)
    ⊣⊢ iprop((∃ f : S2x1x256.Idx → Elt F .i32, idxLoc d L ↦[(idxSlot 0).view.set]{fullShare} f)
      ∗ ∃ f : S2x1x256.Idx → Elt F .i32, idxLoc d L ↦[(idxSlot 1).view.set]{fullShare} f) := by
  rw [← idxSlots_sdiff]
  constructor
  · iintro ⟨%f, H⟩
    ihave H := (pointsTo_split_subset (ℓ := idxLoc d L) (q := fullShare) (f := f) (S := Finset.univ) (Finset.subset_univ (idxSlot 0).view.set)).1 $$ H
    icases H with ⟨H0, H1⟩
    isplitl [H0] <;> iexists _ <;> iassumption
  · iintro ⟨⟨%f, H0⟩, %g, H1⟩
    iexists _
    iapply (pointsTo_join_subset (ℓ := idxLoc d L) (q := fullShare) (f := g) (g := f) (S := Finset.univ) (Finset.subset_univ (idxSlot 0).view.set))
    isplitl [H0] <;> iassumption

omit [FloatOps F] in
/-- The row buffer is its two slots. -/
theorem row_slots : (iprop(∃ f : S2x256x128.Idx → Elt F .f32, rowLoc d L ↦{fullShare} f) : sProp 𝕄)
    ⊣⊢ iprop((∃ f : S2x256x128.Idx → Elt F .f32, rowLoc d L ↦[(rowSlot 0).view.set]{fullShare} f)
      ∗ ∃ f : S2x256x128.Idx → Elt F .f32, rowLoc d L ↦[(rowSlot 1).view.set]{fullShare} f) := by
  rw [← rowSlots_sdiff]
  constructor
  · iintro ⟨%f, H⟩
    ihave H := (pointsTo_split_subset (ℓ := rowLoc d L) (q := fullShare) (f := f) (S := Finset.univ) (Finset.subset_univ (rowSlot 0).view.set)).1 $$ H
    icases H with ⟨H0, H1⟩
    isplitl [H0] <;> iexists _ <;> iassumption
  · iintro ⟨⟨%f, H0⟩, %g, H1⟩
    iexists _
    iapply (pointsTo_join_subset (ℓ := rowLoc d L) (q := fullShare) (f := g) (g := f) (S := Finset.univ) (Finset.subset_univ (rowSlot 0).view.set))
    isplitl [H0] <;> iassumption

/-! ## The task as the launch states it -/

/-- The subcore's core, of two. -/
abbrev cF (L : grid0.Coords) : Fin 2 := Fin.cast rfl (L 0)
/-- The subcore's place in its core, of sixteen. -/
abbrev sF (L : grid0.Coords) : Fin 16 := Fin.cast rfl (L 1)

/-- The share of the list slot `p`'s copies read through. -/
abbrev shL (p : Fin 2) : PosShare TreeShare := if p = 0 then (shT (cF L) (sF L)).left else (shT (cF L) (sF L)).right

set_option maxHeartbeats 4000000 in
/-- A subcore's task, from what it is handed and its own buffers and cells, to its rows looked up. -/
theorem tile_body (hF : (K (F := F)).Facts) (hI : ∀ d n, (I d n).toNat < 100000) (O : CellTallies nD τ sig (HIx 1)) (W : Waits sig (HIx 1))
    (hO : ∀ g, O g none = 0) :
    iprop(levAts (K (F := F)).L (K (F := F)).lev ∗ emp
        ∗ resT T I d (cF L) (sF L) (f d)
        ∗ scopedBufs (tV d L) ∗ scopedSems0 (tV d L) ∗ owes (tV d L) O W)
      ⊢ wp frame (wpE (defs₀ (F := F)) 𝒱₀ (tV d L) none) Set.univ
          (cc0_gather_kernel (F := F) L tabV (Memref.isWhole_whole _) lstV (Memref.isWhole_whole _) outV (Memref.isWhole_whole _) cc0_scratch0
            idxV (Memref.isWhole_whole _) cc0_scoped1 rowV (Memref.isWhole_whole _) cc0_scoped3)
          fun _ => iprop(resT T I d (cF L) (sF L) (looked (T d) (I d))
            ∗ scopedBufs (tV d L) ∗ scopedSems0 (tV d L)
            ∗ ∃ W', ⌜∀ p ∈ W', p ∈ W ∨ p.2 = none⌝ ∗ owes (tV d L) O W') := by
  rw [(K (F := F)).scopedBufs_V hF d (cV L) (jV L), SparseCore.Cfg.scopedSems0_V (Val := Elt F) d (cV L) (jV L), ownSems_tV, ownBufs_tV]
  iintro ⟨#Hlv, -, ⟨Ht, Hl, Ho⟩, ⟨Hix, Hrw, Hbufs⟩, ⟨Hi0, Hi1, Ho0, Ho1, Hg0, Hg1, Hsems⟩, HO⟩
  ihave Hmw := (show levAts (K (F := F)).L (K (F := F)).lev ⊢ Transfers.MayWaits (tV d L) (default : HIx 1) O from
    (K (F := F)).mayWaits_none (thr := tV d L) hO) $$ Hlv
  ihave Hix := (idx_slots d L).1 $$ Hix
  icases Hix with ⟨Hx0, Hx1⟩
  ihave Hrw := (row_slots d L).1 $$ Hrw
  icases Hrw with ⟨Hr0, Hr1⟩
  ihave Hl := (pointsTo_share (ℓ := lstL d) (I := Finset.univ) (f := I d) (PosShare.mem_left_op_right (shT (cF L) (sF L)))).1 $$ Hl
  icases Hl with ⟨Hl0, Hl1⟩
  iapply (task d L (T d) (I d) (f d) (shT (cF L) (sF L)) (shL L) O W (hI d)) $$ [Hmw Ht Hl0 Hl1 Ho Hx0 Hx1 Hr0 Hr1 Hi0 Hi1 Ho0 Ho1 Hg0 Hg1 HO]
  · isplitl [Hmw]; · iexact Hmw
    unfold taskRes idxFree rowFree waited
    isplitl [Ht]; · iexact Ht
    isplitl [Hg0]; · iexact Hg0
    isplitl [Hg1]; · iexact Hg1
    isplitl [HO]
    · iexists W; isplitr
      · ipureintro; exact fun p hp => .inl hp
      iexact HO
    isplitl [Hx0 Hi0 Hl0]
    · isplitl [Hx0]; · iexact Hx0
      isplitl [Hi0]; · iexact Hi0
      iexact Hl0
    isplitl [Hx1 Hi1 Hl1]
    · isplitl [Hx1]; · iexact Hx1
      isplitl [Hi1]; · iexact Hi1
      iexact Hl1
    isplitl [Hr0 Ho0]; · isplitl [Hr0] <;> iassumption
    isplitl [Hr1 Ho1]; · isplitl [Hr1] <;> iassumption
    iexact Ho
  unfold taskRes idxFree rowFree waited
  iintro ⟨Ht, Hg0, Hg1, HO, ⟨Hx0, Hi0, Hl0⟩, ⟨Hx1, Hi1, Hl1⟩, ⟨Hr0, Ho0⟩, ⟨Hr1, Ho1⟩, Ho⟩
  isplitl [Ht Hl0 Hl1 Ho]
  · isplitl [Ht]; · iexact Ht
    isplitl [Hl0 Hl1]
    · iapply (pointsTo_share (ℓ := lstL d) (I := Finset.univ) (f := I d) (PosShare.mem_left_op_right (shT (cF L) (sF L)))).2
      isplitl [Hl0]; · iexact Hl0
      iexact Hl1
    iexact Ho
  isplitl [Hx0 Hx1 Hr0 Hr1 Hbufs]
  · isplitl [Hx0 Hx1]
    · iapply (idx_slots d L).2
      isplitl [Hx0] <;> iassumption
    isplitl [Hr0 Hr1]
    · iapply (row_slots d L).2
      isplitl [Hr0] <;> iassumption
    iexact Hbufs
  isplitl [Hi0 Hi1 Ho0 Ho1 Hg0 Hg1 Hsems]
  · isplitl [Hi0]; · iexact Hi0
    isplitl [Hi1]; · iexact Hi1
    isplitl [Ho0]; · iexact Ho0
    isplitl [Ho1]; · iexact Ho1
    isplitl [Hg0]; · iexact Hg0
    isplitl [Hg1]; · iexact Hg1
    iexact Hsems
  iexact HO

/-- Subcore `s` of core `c`. -/
def coordsV (c : Fin (grid0.bound 0)) (s : Fin (grid0.bound 1)) : grid0.Coords :=
  fun | 0 => c | 1 => s | ⟨_ + 2, h⟩ => absurd h (Nat.not_lt.2 (Nat.le_add_left _ _))

/-- A vector subcore's task is the kernel's body at its coordinates. -/
theorem defs₀_vector (c : Fin τ.nSC) (s : Fin τ.nSub) :
    defs₀ (F := F) (.scVector c s) 0 ()
      = SparseCore.onTile hcore0 hsub0 (fun c s => cc0_gather_kernel (F := F) (coordsV c s) tabV (Memref.isWhole_whole _) lstV (Memref.isWhole_whole _)
          outV (Memref.isWhole_whole _) cc0_scratch0 idxV (Memref.isWhole_whole _) cc0_scoped1 rowV (Memref.isWhole_whole _) cc0_scoped3) ⟨⟩ c s := rfl

omit [FloatOps F] in
/-- The waits a task made, stated as the launch states them. -/
theorem obl_post {thr : Thread nD τ} {A B C : sProp 𝕄} {O : CellTallies nD τ sig (HIx 1)} {W : Waits sig (HIx 1)} {q : Fin 1} :
    iprop(A ∗ B ∗ C ∗ ∃ W', ⌜∀ p ∈ W', p ∈ W ∨ p.2 = none⌝ ∗ owes thr O W')
      ⊢ iprop(A ∗ B ∗ C ∗ ∃ W', ⌜∀ p ∈ W', p ∈ W ∨ p.2 = none ∨ p.2 = some q⌝ ∗ owes thr O W') := by
  iintro ⟨HA, HB, HC, %W', %hW', HO⟩
  isplitl [HA]; · iexact HA
  isplitl [HB]; · iexact HB
  isplitl [HC]; · iexact HC
  iexists W'; isplitr
  · ipureintro; exact fun p hp => (hW' p hp).imp_right Or.inl
  · iexact HO

set_option maxRecDepth 16384 in
/-- What the launch asks of the call's tasks. -/
theorem tileObl (hF : (K (F := F)).Facts) (hI : ∀ d n, (I d n).toNat < 100000) : (K (F := F)).TileObl (D (F := F)) 𝒱 (P T I f) v₀ 0 := by
  intro d c i O W hO _ _
  simp only [show (P T I f).ox = fun _ _ => 0 from rfl, add_zero]
  have hci : ((K (F := F)).core 0 c).val < grid0.bound 0 ∧ ((K (F := F)).sub 0 i).val < grid0.bound 1 := ⟨c.isLt, i.isLt⟩
  change _ ⊢ wp _ _ _ (Pipeline.liftProg (defs₀ (F := F) (.scVector ((K (F := F)).core 0 c) ((K (F := F)).sub 0 i)) 0 ())) _
  refine BI.Entails.trans ?_ (Pipeline.wp_liftProg (D (F := F)) (Pipeline.defs_kernel pcfgs defs₀) 𝒱₀ _ Set.univ none _ _)
  rw [defs₀_vector]; simp only [SparseCore.onTile, hci, and_self, ↓reduceDIte]
  exact (tile_body T I f d (coordsV ⟨_, hci.1⟩ ⟨_, hci.2⟩) hF hI O W hO).trans (wp_mono frame _ _ fun _ => obl_post)

end Tile

end Cert.KernelIdeal.Gather

end
-- ==== Proof.Run.lean ====
/-
  The program's run: @main on the TensorCore — the list laid out by two host operations, the call, the result laid out by
  two more — and every execution's end: the result as a function of the two arguments, the arguments and the counters.
-/
module

public import proofs.«01_k».proof.Proof.Launch

@[expose] public section

noncomputable section

namespace Cert.KernelIdeal.Gather

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held wp_hlo_within)
open Idealize.ShloMosaic.Tactic

variable {F : FTy → Type} [FloatOps F]

local notation "𝕄" => MT nD τ sig (HIx 1) (Elt F) ℕ UU ℕ

/-! ## The values -/

/-- The list the kernel reads: `x` transposed, in one row. -/
def lstOf (x : S4096x50.Idx → Elt F .i32) : S1x204800.Idx → Elt F .i32 :=
  shapeCast S1x204800 (transpose S50x4096 [1, 0] x transposes_S4096x50_S50x4096_1_0) shapeCasts_S50x4096_S1x204800
/-- The program's result from the rows the kernel writes. -/
def resOf (g : S204800x128.Idx → Elt F .f32) : S4096x50x128.Idx → Elt F .f32 :=
  transpose S4096x50x128 [1, 0, 2] (shapeCast S50x4096x128 g shapeCasts_S204800x128_S50x4096x128) transposes_S50x4096x128_S4096x50x128_1_0_2

variable (m : (ℓ : Loc nD τ sig) → Buf (Elt F) ℓ) (ρ : Dev nD → PrngReg)

/-- The argument `x`. -/
abbrev xL (d : Dev nD) : Loc nD τ sig := (SparseCore.T d).loc main_arg0
/-- The program's result. -/
abbrev endL (d : Dev nD) : Loc nD τ sig := (SparseCore.T d).loc main_v4

/-- The table at launch. -/
abbrev tabM (d : Dev nD) : S100000x128.Idx → Elt F .f32 := m (tabL d)
/-- The list the first two operations make. -/
abbrev lstM (d : Dev nD) : S1x204800.Idx → Elt F .i32 := lstOf (m (xL d))
/-- The kernel's output array at launch. -/
abbrev outM (d : Dev nD) : S204800x128.Idx → Elt F .f32 := m (outL d)
/-- The rows looked up, and the result. -/
abbrev gotM (d : Dev nD) : S204800x128.Idx → Elt F .f32 := looked (tabM m d) (lstM m d)
/-- The program's result: the rows looked up, laid out. -/
abbrev endM (d : Dev nD) : S4096x50x128.Idx → Elt F .f32 := resOf (gotM m d)

/-- The call's payloads at the launch memory. -/
abbrev PM : (K (F := F)).Pay (nD := nD) (Val := Elt F) (Name := ℕ) (U := UU) := P (tabM m) (lstM m) (outM m)

/-- What the run asks of the launch memory: every word of `x` names a row of the table. -/
def PreOK : Prop := ∀ (d : Dev nD) (j : S4096x50.Idx), (m (xL d) j).toNat < 100000

omit [FloatOps F] in
/-- Then so does every word of the list. -/
theorem lst_ok (h : PreOK m) (d : Dev nD) (n : S1x204800.Idx) : (lstM m d n).toNat < 100000 := h d _

/-! ## The launch element of the ghost state -/

/-- The handshakes' rounds at their start. -/
def u₀ : UU := (initOf (K (F := F)).hsCells (K (F := F)).hsToks, 1)

omit [FloatOps F] in
/-- Nothing, for every member of a set, is nothing. -/
theorem bigSep_emp' {J : Type} (s : Finset J) : (bigSep s fun _ => iprop(emp)) = (iprop(emp) : sProp 𝕄) := bigSep_emp_const s

/-- The launch element gives the handshakes what they start from; nothing else is asked of it. -/
theorem hu₀ : (ownU (u₀ (F := F)) : sProp 𝕄)
    ⊢ |={Set.univ}=> iprop(BI.own (EH (initOf (K (F := F)).hsCells (K (F := F)).hsToks)) ∗ (bigSep Finset.univ fun _ : Dev nD => iprop(emp))
        ∗ bigSep Finset.univ fun thr : Thread nD τ => bigSep Finset.univ fun q : Fin 1 => (PM m).x q thr) := by
  unfold u₀
  iintro Hu
  ihave H := (ownU_pair (initOf (K (F := F)).hsCells (K (F := F)).hsToks) (1 : Counters)) $$ Hu
  icases H with ⟨HH, -⟩
  imodintro
  isplitl [HH]; · iexact HH
  isplitr; · rw [bigSep_emp']; iempintro
  rw [show (bigSep Finset.univ fun thr : Thread nD τ => bigSep Finset.univ fun q : Fin 1 => (PM (F := F) m).x q thr) = bigSep Finset.univ fun _ => iprop(emp) from
    bigSep_congr fun _ _ => bigSep_univ_of_subsingleton (0 : Fin 1), bigSep_emp']
  iempintro

/-! ## @main on the TensorCore -/

/-- The array of argument `x`. -/
abbrev x' : DevRef τ sig := Proc.devRef .tc (main_arg0 : Ref sig .tc)
/-- The array of the table. -/
abbrev t' : DevRef τ sig := Proc.devRef .tc (main_arg1 : Ref sig .tc)
/-- The array of `x` transposed. -/
abbrev v0' : DevRef τ sig := Proc.devRef .tc (main_v0 : Ref sig .tc)
/-- The array of the list. -/
abbrev l' : DevRef τ sig := Proc.devRef .tc (main_v1 : Ref sig .tc)
/-- The array the kernel writes. -/
abbrev o' : DevRef τ sig := Proc.devRef .tc (main_v2 : Ref sig .tc)
/-- The array of the rows reshaped. -/
abbrev v3' : DevRef τ sig := Proc.devRef .tc (main_v3 : Ref sig .tc)
/-- The array of the result. -/
abbrev v4' : DevRef τ sig := Proc.devRef .tc (main_v4 : Ref sig .tc)

/-- `x` is transposed. -/
abbrev op1 : HloOp τ sig (Elt F) := StableHlo.unary main_arg0 main_v0
  ((transpose S50x4096 [1, 0] · transposes_S4096x50_S50x4096_1_0) : (⟨S4096x50, .i32⟩ : BufTy).Contents (Elt F) → (⟨S50x4096, .i32⟩ : BufTy).Contents (Elt F))
/-- The transpose is laid out in one row. -/
abbrev op2 : HloOp τ sig (Elt F) := StableHlo.reshape main_v0 main_v1 (rfl : (.i32 : EltTy) = .i32) shapeCasts_S50x4096_S1x204800
/-- The rows are reshaped. -/
abbrev op3 : HloOp τ sig (Elt F) := StableHlo.reshape main_v2 main_v3 (rfl : (.f32 : EltTy) = .f32) shapeCasts_S204800x128_S50x4096x128
/-- They are transposed into the result. -/
abbrev op4 : HloOp τ sig (Elt F) := StableHlo.unary main_v3 main_v4
  ((transpose S4096x50x128 [1, 0, 2] · transposes_S50x4096x128_S4096x50x128_1_0_2) : (⟨S50x4096x128, .f32⟩ : BufTy).Contents (Elt F) → (⟨S4096x50x128, .f32⟩ : BufTy).Contents (Elt F))

/-- The TensorCore's arrays. -/
abbrev S7 : Finset (DevRef τ sig) := {x', t', v0', l', o', v3', v4'}

omit [FloatOps F] in
/-- Holding the seven arrays is holding each. -/
theorem held_S7 (d : Dev nD) (W : Valuation τ sig (Elt F)) :
    (held (SparseCore.T d) S7 W : sProp 𝕄)
      = iprop((xL d ↦{fullShare} W x') ∗ (tabL d ↦{fullShare} W t') ∗ ((SparseCore.T d).loc main_v0 ↦{fullShare} W v0') ∗ (lstL d ↦{fullShare} W l')
          ∗ (outL d ↦{fullShare} W o') ∗ ((SparseCore.T d).loc main_v3 ↦{fullShare} W v3') ∗ endL d ↦{fullShare} W v4') := by
  unfold held S7
  rw [SparseCore.bigSep_insert' (by decide), SparseCore.bigSep_insert' (by decide), SparseCore.bigSep_insert' (by decide),
    SparseCore.bigSep_insert' (by decide), SparseCore.bigSep_insert' (by decide), SparseCore.bigSep_insert' (by decide), bigSep_singleton]

/-- The contents at launch, before the call, after it, and at the end. -/
def V0 (d : Dev nD) : Valuation τ sig (Elt F) := fun b => m (d, b)
/-- The contents before the call. -/
def V2 (d : Dev nD) : Valuation τ sig (Elt F) := (op2 (F := F)).result ((op1 (F := F)).result (V0 m d))
/-- The contents after the call: the rows looked up. -/
def V3 (d : Dev nD) : Valuation τ sig (Elt F) := Function.update (V2 m d) o' (gotM m d)
/-- The contents at the end. -/
def V5 (d : Dev nD) : Valuation τ sig (Elt F) := (op4 (F := F)).result ((op3 (F := F)).result (V3 m d))

omit [FloatOps F] in
/-- What the TensorCore is given at launch is its seven arrays at the launch memory. -/
theorem unscoped_held (d : Dev nD) : (unscopedBufs d (fun b => m ((SparseCore.T d).loc b)) : sProp 𝕄) = held (SparseCore.T d) S7 (V0 m d) := by
  rw [held_S7]
  unfold unscopedBufs
  rw [show (Finset.univ.filter fun b : Ref sig .tc => ¬ b.isScoped) = {main_arg0, main_arg1, main_v0, main_v1, main_v2, main_v3, main_v4} by decide,
    SparseCore.bigSep_insert' (by decide), SparseCore.bigSep_insert' (by decide), SparseCore.bigSep_insert' (by decide),
    SparseCore.bigSep_insert' (by decide), SparseCore.bigSep_insert' (by decide), SparseCore.bigSep_insert' (by decide), bigSep_singleton]
  rfl

/-- The first two operations leave every array but the two they write. -/
theorem V2_ne (d : Dev nD) {b : DevRef τ sig} (h1 : b ≠ v0') (h2 : b ≠ l') : V2 m d b = m (d, b) := by
  unfold V2
  rw [(op2 (F := F)).result_of_not_mem _ (show b ∉ ({l'} : Finset (DevRef τ sig)) from fun h => h2 (Finset.mem_singleton.mp h)),
    (op1 (F := F)).result_of_not_mem _ (show b ∉ ({v0'} : Finset (DevRef τ sig)) from fun h => h1 (Finset.mem_singleton.mp h))]
  rfl
/-- They leave the list in its array. -/
theorem V2_l (d : Dev nD) : V2 m d l' = lstM m d := by
  refine (StableHlo.reshape_result main_v0 main_v1 (rfl : (.i32 : EltTy) = .i32) shapeCasts_S50x4096_S1x204800 _ _ ((op1 (F := F)).result (V0 m d))).trans ?_
  exact congrArg (fun y : S50x4096.Idx → Elt F .i32 => shapeCast S1x204800 y shapeCasts_S50x4096_S1x204800)
    (StableHlo.unary_result main_arg0 main_v0
      ((transpose S50x4096 [1, 0] · transposes_S4096x50_S50x4096_1_0) : (⟨S4096x50, .i32⟩ : BufTy).Contents (Elt F) → (⟨S50x4096, .i32⟩ : BufTy).Contents (Elt F))
      _ _ (V0 m d))

/-- The call leaves every array but its output. -/
theorem V3_ne (d : Dev nD) {b : DevRef τ sig} (h : b ≠ o') : V3 m d b = V2 m d b := Function.update_of_ne h _ _
/-- The call leaves the rows looked up in its output. -/
theorem V3_o (d : Dev nD) : V3 m d o' = gotM m d := Function.update_self _ _ _
/-- The last two operations leave every array but the two they write. -/
theorem V5_ne (d : Dev nD) {b : DevRef τ sig} (h1 : b ≠ v3') (h2 : b ≠ v4') : V5 m d b = V3 m d b := by
  unfold V5
  rw [(op4 (F := F)).result_of_not_mem _ (show b ∉ ({v4'} : Finset (DevRef τ sig)) from fun h => h2 (Finset.mem_singleton.mp h)),
    (op3 (F := F)).result_of_not_mem _ (show b ∉ ({v3'} : Finset (DevRef τ sig)) from fun h => h1 (Finset.mem_singleton.mp h))]
/-- They leave the result in its array. -/
theorem V5_end (d : Dev nD) : V5 m d v4' = endM m d := by
  refine (StableHlo.unary_result main_v3 main_v4
    ((transpose S4096x50x128 [1, 0, 2] · transposes_S50x4096x128_S4096x50x128_1_0_2) : (⟨S50x4096x128, .f32⟩ : BufTy).Contents (Elt F) → (⟨S4096x50x128, .f32⟩ : BufTy).Contents (Elt F))
    _ _ ((op3 (F := F)).result (V3 m d))).trans ?_
  refine congrArg (fun y : S50x4096x128.Idx → Elt F .f32 => transpose S4096x50x128 [1, 0, 2] y transposes_S50x4096x128_S4096x50x128_1_0_2) ?_
  refine (StableHlo.reshape_result main_v2 main_v3 (rfl : (.f32 : EltTy) = .f32) shapeCasts_S204800x128_S50x4096x128 _ _ (V3 m d)).trans ?_
  exact congrArg (fun y : S204800x128.Idx → Elt F .f32 => shapeCast S50x4096x128 y shapeCasts_S204800x128_S50x4096x128) (V3_o m d)

/-- The seven arrays before the call; at the end. -/
theorem held_V2 (d : Dev nD) :
    (held (SparseCore.T d) S7 ((op2 (F := F)).result ((op1 (F := F)).result (V0 m d))) : sProp 𝕄)
      = iprop((xL d ↦{fullShare} m (xL d)) ∗ (tabL d ↦{fullShare} tabM m d) ∗ ((SparseCore.T d).loc main_v0 ↦{fullShare} V2 m d v0') ∗ (lstL d ↦{fullShare} lstM m d)
          ∗ (outL d ↦{fullShare} outM m d) ∗ ((SparseCore.T d).loc main_v3 ↦{fullShare} V2 m d v3') ∗ endL d ↦{fullShare} V2 m d v4') := by
  show held (SparseCore.T d) S7 (V2 m d) = _
  rw [held_S7, V2_ne m d (b := x') (by decide) (by decide), V2_ne m d (b := t') (by decide) (by decide), V2_ne m d (b := o') (by decide) (by decide), V2_l]
/-- The seven arrays after the call. -/
theorem held_V3 (d : Dev nD) :
    (held (SparseCore.T d) S7 (V3 m d) : sProp 𝕄)
      = iprop((xL d ↦{fullShare} m (xL d)) ∗ (tabL d ↦{fullShare} tabM m d) ∗ ((SparseCore.T d).loc main_v0 ↦{fullShare} V2 m d v0') ∗ (lstL d ↦{fullShare} lstM m d)
          ∗ (outL d ↦{fullShare} gotM m d) ∗ ((SparseCore.T d).loc main_v3 ↦{fullShare} V2 m d v3') ∗ endL d ↦{fullShare} V2 m d v4') := by
  rw [held_S7, V3_ne m d (b := x') (by decide), V3_ne m d (b := t') (by decide), V3_ne m d (b := v0') (by decide), V3_ne m d (b := l') (by decide),
    V3_ne m d (b := v3') (by decide), V3_ne m d (b := v4') (by decide), V3_o,
    V2_ne m d (b := x') (by decide) (by decide), V2_ne m d (b := t') (by decide) (by decide), V2_l]
/-- The seven arrays at the end. -/
theorem held_V5 (d : Dev nD) :
    (held (SparseCore.T d) S7 ((op4 (F := F)).result ((op3 (F := F)).result (V3 m d))) : sProp 𝕄)
      = iprop((xL d ↦{fullShare} m (xL d)) ∗ (tabL d ↦{fullShare} tabM m d) ∗ ((SparseCore.T d).loc main_v0 ↦{fullShare} V5 m d v0') ∗ (lstL d ↦{fullShare} V5 m d l')
          ∗ (outL d ↦{fullShare} V5 m d o') ∗ ((SparseCore.T d).loc main_v3 ↦{fullShare} V5 m d v3') ∗ endL d ↦{fullShare} endM m d) := by
  show held (SparseCore.T d) S7 (V5 m d) = _
  rw [held_S7, V5_end, V5_ne m d (b := x') (by decide) (by decide), V5_ne m d (b := t') (by decide) (by decide), V3_ne m d (b := x') (by decide),
    V3_ne m d (b := t') (by decide), V2_ne m d (b := x') (by decide) (by decide), V2_ne m d (b := t') (by decide) (by decide)]

/-- What the call takes is the three arrays; so is what it gives back. -/
theorem st_eq (d : Dev nD) : (bigSep Finset.univ fun c : Fin ((K (F := F)).nCore 0) => (PM m).st 0 d c)
    = iprop((tabL d ↦{fullShare} tabM m d) ∗ (lstL d ↦{fullShare} lstM m d) ∗ outL d ↦{fullShare} outM m d) :=
  (bigSep_cores (fun c => resC (tabM m) (lstM m) d c (outM m d))).trans (whole_cores (tabM m) (lstM m) d (outM m d)).symm
/-- What the call gives back is the three arrays, the output looked up. -/
theorem dn_eq (d : Dev nD) : (bigSep Finset.univ fun c : Fin ((K (F := F)).nCore 0) => (PM m).dn 0 d c)
    = iprop((tabL d ↦{fullShare} tabM m d) ∗ (lstL d ↦{fullShare} lstM m d) ∗ outL d ↦{fullShare} gotM m d) :=
  (bigSep_cores (fun c => resC (tabM m) (lstM m) d c (gotM m d))).trans (whole_cores (tabM m) (lstM m) d (gotM m d)).symm

omit [FloatOps F] in
/-- The first operation touches only the seven arrays. -/
theorem h1 : (op1 (F := F)).bufs ⊆ S7 := show ({x', v0'} : Finset (DevRef τ sig)) ⊆ S7 by decide
omit [FloatOps F] in
/-- So does the second. -/
theorem h2 : (op2 (F := F)).bufs ⊆ S7 := show ({v0', l'} : Finset (DevRef τ sig)) ⊆ S7 by decide
omit [FloatOps F] in
/-- So does the third. -/
theorem h3 : (op3 (F := F)).bufs ⊆ S7 := show ({o', v3'} : Finset (DevRef τ sig)) ⊆ S7 by decide
omit [FloatOps F] in
/-- So does the fourth. -/
theorem h4 : (op4 (F := F)).bufs ⊆ S7 := show ({v3', v4'} : Finset (DevRef τ sig)) ⊆ S7 by decide

/-- What @main leaves: the arguments at their launch contents, the result. -/
abbrev FIN (d : Dev nD) : sProp 𝕄 := iprop((xL d ↦{fullShare} m (xL d)) ∗ (tabL d ↦{fullShare} tabM m d) ∗ endL d ↦{fullShare} endM m d)

/-- @main on device `d`'s TensorCore. -/
theorem hmain (κ : GSem nD τ sig → ℕ) (d : Dev nD) :
    iprop((K (F := F)).ctx EH (PM m) κ ∗ (K (F := F)).tcSt EH d 0 ∗ (K (F := F)).tcRes m ρ d ∗ emp)
      ⊢ wp frame (wpE ((K (F := F)).defs (D (F := F))) 𝒱 (SparseCore.T d) none) Set.univ (main d)
          fun _ => iprop((K (F := F)).tcSt EH d 1 ∗ FIN m d ∗ (K (F := F)).tcEnd d) := by
  unfold SparseCore.Cfg.tcRes SparseCore.Cfg.tcEnd
  rw [unscoped_held]
  simp only [main, wp_bind, wp_pure]
  iintro ⟨#Hctx, Hst, ⟨Hb, Hheld, Hts, -⟩, -⟩
  iapply (wp_hlo_within 𝒱 (SparseCore.T d) none Set.univ (op := op1) (S := S7) h1 (V := V0 m d)) $$ [Hb Hheld]
  · isplitl [Hb] <;> iassumption
  iintro ⟨Hb, Hheld⟩
  rw [wp_ret]; imodintro
  iapply (wp_hlo_within 𝒱 (SparseCore.T d) none Set.univ (op := op2) (S := S7) h2 (V := (op1 (F := F)).result (V0 m d))) $$ [Hb Hheld]
  · isplitl [Hb] <;> iassumption
  iintro ⟨Hb, Hheld⟩
  rw [wp_ret]; imodintro
  ihave Hh := (Entails.of_eq (held_V2 (F := F) m d)) $$ Hheld
  icases Hh with ⟨Hx, Ht, Hv0, Hl, Ho, Hv3, Hv4⟩
  iapply ((K (F := F)).wp_run (D (F := F)) 𝒱 (EH := EH) (P := PM m) κ d 0) $$ [Hst Hx Ht Hl Ho Hb Hv0 Hv3 Hv4 Hts]
  isplitr; · iexact Hctx
  isplitl [Hst]; · iexact Hst
  isplitl [Ht Hl Ho]
  · rw [st_eq]
    isplitl [Ht]; · iexact Ht
    isplitl [Hl]; · iexact Hl
    iexact Ho
  iintro ⟨Hst, Hdn⟩
  ihave Hdn' := (Entails.of_eq (dn_eq m d)) $$ Hdn
  icases Hdn' with ⟨Ht, Hl, Ho⟩
  iapply (wp_hlo_within 𝒱 (SparseCore.T d) none Set.univ (op := op3) (S := S7) h3 (V := V3 m d)) $$ [Hb Hx Ht Hl Ho Hv0 Hv3 Hv4]
  · isplitl [Hb]; · iexact Hb
    rw [held_V3]
    isplitl [Hx]; · iexact Hx
    isplitl [Ht]; · iexact Ht
    isplitl [Hv0]; · iexact Hv0
    isplitl [Hl]; · iexact Hl
    isplitl [Ho]; · iexact Ho
    isplitl [Hv3]; · iexact Hv3
    iexact Hv4
  iintro ⟨Hb, Hheld⟩
  rw [wp_ret]; imodintro
  iapply (wp_hlo_within 𝒱 (SparseCore.T d) none Set.univ (op := op4) (S := S7) h4 (V := (op3 (F := F)).result (V3 m d))) $$ [Hb Hheld]
  · isplitl [Hb] <;> iassumption
  iintro ⟨Hb, Hheld⟩
  ihave Hh := (Entails.of_eq (held_V5 (F := F) m d)) $$ Hheld
  icases Hh with ⟨Hx, Ht, -, -, -, -, Hv4⟩
  rw [wp_ret]; imodintro; imodintro
  isplitl [Hst]; · iexact Hst
  isplitr [Hb Hts]
  · isplitl [Hx]; · iexact Hx
    isplitl [Ht]; · iexact Ht
    iexact Hv4
  isplitl [Hb] <;> iassumption

/-- What the claims read of device `d`'s final state. -/
def fq (d : Dev nD) (s' : Phys nD τ sig (Elt F)) : Prop :=
  s'.mem.mem (endL d) = endM m d ∧ s'.mem.mem (xL d) = m (xL d) ∧ s'.mem.mem (tabL d) = m (tabL d)

set_option maxRecDepth 16384 in
/-- What @main leaves fixes the final state at the arguments and the result. -/
theorem hfin (d : Dev nD) (s' : Phys nD τ sig (Elt F)) : iprop(FIN m d ∗ SI s') ⊢ (⌜fq m d s'⌝ : sProp 𝕄) := by
  iintro ⟨⟨Hx, Ht, Hr⟩, HSI⟩
  ihave H := (persistent_entails_right (SI_pointsTo_agree (st := s') (ℓ := xL d) (I := Finset.univ) (q := fullShare) (f := m (xL d)))) $$ [HSI Hx]
  · isplitl [HSI] <;> iassumption
  icases H with ⟨%hx, HSI, -⟩
  ihave H := (persistent_entails_right (SI_pointsTo_agree (st := s') (ℓ := tabL d) (I := Finset.univ) (q := fullShare) (f := tabM m d))) $$ [HSI Ht]
  · isplitl [HSI] <;> iassumption
  icases H with ⟨%ht, HSI, -⟩
  ihave H := (SI_pointsTo_agree (st := s') (ℓ := endL d) (I := Finset.univ) (q := fullShare) (f := endM m d)) $$ [HSI Hr]
  · isplitl [HSI] <;> iassumption
  icases H with %hr
  ipureintro; exact ⟨funext fun i => hr i (Finset.mem_univ i), funext fun i => hx i (Finset.mem_univ i), funext fun i => ht i (Finset.mem_univ i)⟩

/-! ## The run -/

/-- How every execution ends. -/
def QC : PUnit × MemSt nD τ sig (Elt F) → Prop := fun r =>
  (∀ c : Dev nD, r.2.mem (endL c) = endM m c ∧ r.2.mem (xL c) = m (xL c) ∧ r.2.mem (tabL c) = m (tabL c)) ∧ r.2.sem = fun _ => 0

/-- Every execution, the words of `x` naming rows of the table, ends so. -/
theorem run_main [∀ e, Nonempty (Elt F e)] (hpre : PreOK m) :
    θ_run (Cert.KernelIdeal.defs (F := F)) (Cert.KernelIdeal.threads (F := F)) ⟨m, fun _ => 0, ρ⟩ (QC m) :=
  SparseCore.Cfg.θ_run_sc_quiescent (K := K (F := F)) (D := D (F := F)) (𝒱 := 𝒱) (EH := EH) (P := PM m) (A := ∅) facts v₀
    (fun q hq => match q with | 0 => nomatch hq)
    (fun q _ => match q with | 0 => tileObl (tabM m) (lstM m) (outM m) facts (lst_ok m hpre))
    (fun q _ => match q with | 0 => SparseCore.Cfg.VecSplit.of_plain (vecSplit (tabM m) (lstM m) (outM m)))
    m ρ main (fun _ => iprop(emp)) (FIN m) (u₀ (F := F)) (sep_elim_left.trans (hu₀ m)) (hmain m ρ) (fq m) (hfin m) (QC m) (fun _ h hz => ⟨h, hz⟩)

end Cert.KernelIdeal.Gather

end
-- ==== Proof.Value.lean ====
/-
  The values: under words of `x` that name rows of the table, the reference's result and the kernel's are both, at
  `(b, s, e)`, column `e` of the table's row `x[b, s]`; and what the precondition says of those words.
-/
module

public import proofs.«01_k».proof.Proof.Run
public import proofs.«01_k».proof.Proof.Gen.ReferenceIdeal.Run
public import proofs.«01_k».proof.Proof.Gen.Pre_in_range
public import Idealize.ShloMosaic.Lib.Pipeline.Value
public import Idealize.ShloMosaic.Lib.ReduceAll
public import Idealize.ShloMosaic.Lib.ValueIdxCore

@[expose] public section

noncomputable section

namespace Cert.Take

open Cert.ReferenceIdeal Cert.ReferenceIdeal.Gen
open Idealize.ShloMosaic Idealize.ShloMosaic.ValueIdx

variable {F : FTy → Type} [FloatOps F]

/-! ## Words -/

/-- A word below 100000 reads the same signed. -/
theorem toInt_small {w : BitVec 32} (h : w.toNat < 100000) : w.toInt = (w.toNat : Int) := by
  rw [BitVec.toInt_eq_toNat_cond]
  omega
/-- A word signed at least 0 and below 100000 is a number below 100000. -/
theorem small_of_signed {w : BitVec 32} (h0 : 0 ≤ w.toInt) (h1 : w.toInt < 100000) : w.toNat < 100000 := by
  rw [BitVec.toInt_eq_toNat_cond] at h0 h1
  split at h0 <;> omega

/-! ## The precondition -/

/-- The precondition says every word of `x` names a row of the table. -/
theorem small_of_pre (x : S4096x50.Idx → Elt F .i32) (t : S100000x128.Idx → Elt F .f32)
    (h : Cert.Pre_in_range.fn (F := F) x t = fun _ => 1#1) (j : S4096x50.Idx) : (x j).toNat < 100000 := by
  have hs : Subsingleton Cert.Pre_in_range.S_.Idx := ⟨fun a b => funext fun d => d.elim0⟩
  unfold Cert.Pre_in_range.fn at h
  have hj := Host.reduce_andi_all (t := Cert.Pre_in_range.S_) _ _ _ _ _ (congrFun h ix0) j
  obtain ⟨h0, h1⟩ := IntOp.andi_eq_one.mp hj
  exact small_of_signed (IntOp.cmpi_sge.mp h0) (IntOp.cmpi_slt.mp h1)

/-! ## The reference -/

/-- The reference's list with its negative words counted from the table's end. -/
def wrapped (x : S4096x50.Idx → Elt F .i32) : S4096x50.Idx → Elt F .i32 :=
  select (cmpi .slt x (broadcastInDim S4096x50 ![] bcast_S_S4096x50 (constantI S_ 32 0#32)))
    (addi x (broadcastInDim S4096x50 ![] bcast_S_S4096x50 (constantI S_ 32 100000#32))) x
/-- A list as the column of places the gather reads. -/
def column (y : S4096x50.Idx → Elt F .i32) : S4096x50x1.Idx → Elt F .i32 :=
  broadcastInDim S4096x50x1 ![0, 1] bcast_S4096x50_S4096x50x1_0_1 y
/-- Which places of a column name a row of the table. -/
def band (y : S4096x50x1.Idx → Elt F .i32) : S4096x50x1.Idx → BitVec 1 :=
  andi (cmpi .sge y (broadcastInDim S4096x50x1 ![] bcast_S_S4096x50x1 (constantI S_ 32 0#32)))
    (cmpi .sle y (broadcastInDim S4096x50x1 ![0, 1, 2] bcast_S1x1x1_S4096x50x1_0_1_2 (broadcastInDim S1x1x1 ![2] bcast_S1_S1x1x1_2 (constantI S1 32 99999#32))))
/-- The reference's result as its operations compose it. -/
def refOf (x : S4096x50.Idx → Elt F .i32) (t : S100000x128.Idx → Elt F .f32) : S4096x50x128.Idx → Elt F .f32 :=
  select (broadcastInDim S4096x50x128 ![0, 1] bcast_S4096x50_S4096x50x128_0_1
      (Host.reduce IntOp.andi (band (F := F) (column (F := F) (wrapped (F := F) x))) (constantI S_ 1 1#1) reducesTo_S4096x50x1_S4096x50_d2 h_S_))
    (Host.gather gather_S100000x128_S4096x50x1_S4096x50x128_2_0_n_n_0_2_1128 t (column (F := F) (wrapped (F := F) x)))
    (broadcastInDim S4096x50x128 ![] bcast_S_S4096x50x128 (constant S_ .f32 0x7FC00000#32))

omit [FloatOps F] in
/-- A list of words that name rows has no negative word. -/
theorem wrapped_eq (x : S4096x50.Idx → Elt F .i32) (h : ∀ j, (x j).toNat < 100000) : wrapped (F := F) x = x := by
  funext j
  show Scalar.select (IntOp.cmpi .slt (x j) 0#32) _ (x j) = x j
  have hc : ¬ IntOp.cmpi .slt (x j) 0#32 = 1#1 := fun hh => by
    have h1 := IntOp.cmpi_slt.mp hh
    rw [toInt_small (h j), show (0#32 : BitVec 32).toInt = 0 by decide] at h1
    omega
  rcases BitVec.eq_zero_or_eq_one (IntOp.cmpi .slt (x j) 0#32) with h0 | h1
  · rw [h0]; rfl
  · exact absurd h1 hc

omit [FloatOps F] in
/-- Every place of such a list's column names a row. -/
theorem band_eq (y : S4096x50x1.Idx → Elt F .i32) (h : ∀ j, (y j).toNat < 100000) (j : S4096x50x1.Idx) : band (F := F) y j = 1#1 := by
  refine IntOp.andi_eq_one.mpr ⟨IntOp.cmpi_sge.mpr ?_, IntOp.cmpi_sle.mpr ?_⟩
  · show (0#32 : BitVec 32).toInt ≤ (y j).toInt
    rw [toInt_small (h j), show (0#32 : BitVec 32).toInt = 0 by decide]; omega
  · show (y j).toInt ≤ (99999#32 : BitVec 32).toInt
    have := h j
    rw [toInt_small (h j), show (99999#32 : BitVec 32).toInt = 99999 by decide]; omega

omit [FloatOps F] in
/-- The gather at `(b, s, e)`: column `e` of the row the column names at `(b, s)`, clamped into the table. -/
theorem gather_apply (t : S100000x128.Idx → Elt F .f32) (y : S4096x50x1.Idx → Elt F .i32) (j : S4096x50x128.Idx) :
    Host.gather gather_S100000x128_S4096x50x1_S4096x50x128_2_0_n_n_0_2_1128 t y j
      = t (ix2 (n0 := 100000) (n1 := 128) ⟨min (y (ix3 (n0 := 4096) (n1 := 50) (n2 := 1) (j 0) (j 1) 0)).toInt.toNat 99999, by omega⟩ (j 2)) := by
  unfold Host.gather
  refine congrArg t (funext fun a => Fin.ext ?_)
  show GatherDims.start _ j y a + GatherDims.batchCoord _ j a + GatherDims.offCoord _ j a = _
  rw [GatherDims.batchCoord_eq_zero _ _ _ List.not_mem_nil]
  match a with
  | ⟨0, _⟩ =>
    rw [GatherDims.offCoord_eq_zero _ _ _ (fun h => ((GatherDims.mem_sKept _ _).mp h).1 (List.mem_singleton.mpr rfl))]
    unfold GatherDims.start
    rw [dif_pos (show (⟨0, by decide⟩ : Fin 2) ∈ gather_S100000x128_S4096x50x1_S4096x50x128_2_0_n_n_0_2_1128.startIndexMap from List.mem_singleton.mpr rfl)]
    simp only [Nat.add_zero]
    refine congrArg (fun w : BitVec 32 => min w.toInt.toNat 99999) (congrArg y (funext fun b => Fin.ext ?_))
    match b with
    | ⟨0, _⟩ => rfl
    | ⟨1, _⟩ => rfl
    | ⟨2, _⟩ => rfl
  | ⟨1, _⟩ =>
    have hs : GatherDims.start gather_S100000x128_S4096x50x1_S4096x50x128_2_0_n_n_0_2_1128 j y (⟨1, by decide⟩ : Fin 2) = 0 := by
      unfold GatherDims.start
      exact dif_neg (fun h => absurd (congrArg Fin.val (List.mem_singleton.mp h)) (by decide))
    rw [hs]
    simp only [Nat.zero_add, Nat.add_zero]
    rfl

/-- Column `j 2` of the table's row that `x` names at `(j 0, j 1)`. -/
def taken (x : S4096x50.Idx → Elt F .i32) (t : S100000x128.Idx → Elt F .f32) : S4096x50x128.Idx → Elt F .f32 :=
  fun j => t (Cert.KernelIdeal.Gather.tabAt (x (ix2 (n0 := 4096) (n1 := 50) (j 0) (j 1))).toNat (j 2))

/-- The reference's result is the taken rows. -/
theorem refOf_eq (x : S4096x50.Idx → Elt F .i32) (t : S100000x128.Idx → Elt F .f32) (h : ∀ j, (x j).toNat < 100000) :
    refOf x t = taken x t := by
  unfold refOf
  rw [wrapped_eq x h]
  have hcol : ∀ j, (column (F := F) x j).toNat < 100000 := fun j => h _
  funext j
  have hone : broadcastInDim S4096x50x128 ![0, 1] bcast_S4096x50_S4096x50x128_0_1
      (Host.reduce IntOp.andi (band (F := F) (column (F := F) x)) (constantI S_ 1 1#1) reducesTo_S4096x50x1_S4096x50_d2 h_S_) j = 1#1 :=
    Host.reduce_andi_one _ _ _ _ _ rfl (band_eq _ hcol)
  show Scalar.select (broadcastInDim S4096x50x128 ![0, 1] bcast_S4096x50_S4096x50x128_0_1
      (Host.reduce IntOp.andi (band (F := F) (column (F := F) x)) (constantI S_ 1 1#1) reducesTo_S4096x50x1_S4096x50_d2 h_S_) j)
    (Host.gather gather_S100000x128_S4096x50x1_S4096x50x128_2_0_n_n_0_2_1128 t (column (F := F) x) j) _ = _
  rw [hone, select_one, gather_apply]
  have hc : column (F := F) x (ix3 (n0 := 4096) (n1 := 50) (n2 := 1) (j 0) (j 1) 0) = x (ix2 (n0 := 4096) (n1 := 50) (j 0) (j 1)) := by
    refine broadcastInDim_apply (s := S4096x50) (t := S4096x50x1) _ _ _ _ _ fun a => ?_
    match a with
    | ⟨0, _⟩ => rfl
    | ⟨1, _⟩ => rfl
  have hx := h (ix2 (n0 := 4096) (n1 := 50) (j 0) (j 1))
  refine congrArg t (funext fun a => Fin.ext ?_)
  match a with
  | ⟨0, _⟩ =>
    show min (column (F := F) x (ix3 (n0 := 4096) (n1 := 50) (n2 := 1) (j 0) (j 1) 0)).toInt.toNat 99999
      = (x (ix2 (n0 := 4096) (n1 := 50) (j 0) (j 1))).toNat % 100000
    rw [hc, toInt_small hx, Int.toNat_natCast, Nat.mod_eq_of_lt hx]
    omega
  | ⟨1, _⟩ => rfl

/-! ## The kernel -/

omit [FloatOps F] in
/-- Place `4096 * s + b` of the kernel's list is `x` at `(b, s)`. -/
theorem lstOf_apply (x : S4096x50.Idx → Elt F .i32) (b : Fin 4096) (s : Fin 50) :
    Cert.KernelIdeal.Gather.lstOf x (Cert.KernelIdeal.Gather.lstAt (4096 * s.val + b.val)) = x (ix2 b s) := by
  unfold Cert.KernelIdeal.Gather.lstOf
  refine (shapeCast_apply (s := Cert.KernelIdeal.S50x4096) (t := Cert.KernelIdeal.S1x204800) _ _ _ (ix2 s b) ?_).trans ?_
  · rw [Shape.rowMajor_val_two, Shape.rowMajor_val_two]
    show s.val * 4096 + b.val = 0 * 204800 + (4096 * s.val + b.val) % 204800
    have := s.isLt; have := b.isLt
    omega
  · refine transpose_apply (s := Cert.KernelIdeal.S4096x50) (t := Cert.KernelIdeal.S50x4096) _ _ _ _ (ix2 b s) fun a => ?_
    match a with
    | ⟨0, _⟩ => rfl
    | ⟨1, _⟩ => rfl

omit [FloatOps F] in
/-- The kernel's result is the taken rows. -/
theorem resOf_eq (x : S4096x50.Idx → Elt F .i32) (t : S100000x128.Idx → Elt F .f32) :
    Cert.KernelIdeal.Gather.resOf (Cert.KernelIdeal.Gather.looked t (Cert.KernelIdeal.Gather.lstOf x)) = taken x t := by
  funext j
  have hb : (j 0).val < 4096 := (j 0).isLt
  have hs : (j 1).val < 50 := (j 1).isLt
  unfold Cert.KernelIdeal.Gather.resOf
  refine (transpose_apply (s := Cert.KernelIdeal.S50x4096x128) (t := Cert.KernelIdeal.S4096x50x128) _ _ _ j
    (ix3 (n0 := 50) (n1 := 4096) (n2 := 128) (j 1) (j 0) (j 2)) fun a => ?_).trans ?_
  · match a with
    | ⟨0, _⟩ => rfl
    | ⟨1, _⟩ => rfl
    | ⟨2, _⟩ => rfl
  refine (shapeCast_apply (s := Cert.KernelIdeal.S204800x128) (t := Cert.KernelIdeal.S50x4096x128) _ _ _
    (ix2 (n0 := 204800) (n1 := 128) ⟨4096 * (j 1).val + (j 0).val, by omega⟩ (j 2)) ?_).trans ?_
  · rw [Shape.rowMajor_val_two, Shape.rowMajor_val_three]
    show (4096 * (j 1).val + (j 0).val) * 128 + (j 2).val = ((j 1).val * 4096 + (j 0).val) * 128 + (j 2).val
    omega
  · show t (Cert.KernelIdeal.Gather.tabAt
      (Cert.KernelIdeal.Gather.lstOf x (Cert.KernelIdeal.Gather.lstAt (4096 * (j 1).val + (j 0).val))).toNat (j 2)) = _
    rw [lstOf_apply x (j 0) (j 1)]
    rfl

end Cert.Take

end
-- ==== Proof.lean ====
/-
  The proof of `Cert.Claim`: the kernel's run (Proof/Run.lean), proved once over any floats, read at the arguments and the
  counters for the two frames, and at the result for the two value claims; the reference's generated run, whose result
  Proof/Value.lean equates with the kernel's.
-/
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Gen.ReferenceIdeal.Run
public import proofs.«01_k».proof.Proof.Gen.Reference
public import proofs.«01_k».proof.Proof.Gen.Reference.Run
public import proofs.«01_k».proof.Proof.Gen.Pre_in_range
public import proofs.«01_k».proof.Proof.Value
public import Idealize.ShloMosaic.Adequacy
public import Idealize.ShloMosaic.Init

@[expose] public section

noncomputable section

namespace Cert.Proof

open Idealize.ShloMosaic Idealize.SL.Sem

/-- `KernelIdeal`'s frame: its run, without the value. -/
theorem frame_ideal : Cert.quiescent_KernelIdeal := fun m ρ hpre =>
  (θ_run Cert.KernelIdeal.defs _ _).mono (fun _ h => ⟨fun c => (h.1 c).2, h.2⟩)
    (Cert.KernelIdeal.Gather.run_main (F := Ideal) m ρ fun d => Cert.Take.small_of_pre (F := Ideal) _ _ (hpre d))

/-- `Kernel`'s frame: the same run at `Bits`. -/
theorem frame_kernel : Cert.quiescent_Kernel := fun m ρ hpre =>
  (θ_run Cert.KernelIdeal.defs _ _).mono (fun _ h => ⟨fun c => (h.1 c).2, h.2⟩)
    (Cert.KernelIdeal.Gather.run_main (F := Bits) m ρ fun d => Cert.Take.small_of_pre (F := Bits) _ _ (hpre d))

/-- The reference's frame at `Ideal`; the program declares no semaphore. -/
theorem frame_refIdeal : Cert.quiescent_ReferenceIdeal := fun m ρ _ =>
  (θ_run Cert.ReferenceIdeal.defs _ _).mono (fun r h => ⟨fun c => (h c).2, sem_eq_zero_of_no_sems (by decide) r.2⟩)
    (Cert.ReferenceIdeal.Value.run (F := Ideal) m ρ)

/-- The same under the precondition. -/
theorem frame_refIdeal_pre : Cert.quiescent_ReferenceIdeal_pre_in_range := fun m ρ _ => frame_refIdeal m ρ trivial

/-- The reference's frame at `Bits`. -/
theorem frame_ref : Cert.quiescent_Reference := fun m ρ _ =>
  (θ_run Cert.Reference.defs _ _).mono (fun r h => ⟨fun c => (h c).2, sem_eq_zero_of_no_sems (by decide) r.2⟩)
    (Cert.Reference.Value.run (F := Bits) m ρ)

/-- At `Ideal` the kernel and the reference end with equal results: the rows of the table that `x` names. -/
theorem algebraic : Cert.algebraic_KernelIdeal_ReferenceIdeal := by
  intro m ρ m' ρ' hpre hagree
  have hx : ∀ (d : Dev Cert.KernelIdeal.nD) j, (m ((d.tc : Thread Cert.KernelIdeal.nD Cert.KernelIdeal.τ).loc Cert.KernelIdeal.main_arg0) j).toNat < 100000 :=
    fun d => Cert.Take.small_of_pre (F := Ideal) _ _ (hpre d)
  refine ⟨fun c => Cert.Take.taken (F := Ideal) (m ((c.tc : Thread Cert.KernelIdeal.nD Cert.KernelIdeal.τ).loc Cert.KernelIdeal.main_arg0))
    (m ((c.tc : Thread Cert.KernelIdeal.nD Cert.KernelIdeal.τ).loc Cert.KernelIdeal.main_arg1)), ?_, ?_⟩
  · exact (θ_run Cert.KernelIdeal.defs _ _).mono (fun _ h c => ⟨(h.1 c).1.trans (Cert.Take.resOf_eq (F := Ideal) _ _), (h.1 c).2⟩)
      (Cert.KernelIdeal.Gather.run_main (F := Ideal) m ρ hx)
  · refine (θ_run Cert.ReferenceIdeal.defs _ _).mono (fun _ h c => ⟨(h c).1.trans ?_, (h c).2⟩)
      (Cert.ReferenceIdeal.Value.run (F := Ideal) m' ρ')
    rw [(hagree c).1, (hagree c).2]
    exact Cert.Take.refOf_eq (F := Ideal) _ _ (hx c)

/-- At `Bits` likewise, bit for bit. -/
theorem bitexact : Cert.bitexact_Kernel_Reference := by
  intro m ρ m' ρ' hpre hagree
  have hx : ∀ (d : Dev Cert.Kernel.nD) j, (m ((d.tc : Thread Cert.Kernel.nD Cert.Kernel.τ).loc Cert.Kernel.main_arg0) j).toNat < 100000 :=
    fun d => Cert.Take.small_of_pre (F := Bits) _ _ (hpre d)
  refine ⟨fun c => Cert.Take.taken (F := Bits) (m ((c.tc : Thread Cert.Kernel.nD Cert.Kernel.τ).loc Cert.Kernel.main_arg0))
    (m ((c.tc : Thread Cert.Kernel.nD Cert.Kernel.τ).loc Cert.Kernel.main_arg1)), ?_, ?_⟩
  · exact (θ_run Cert.KernelIdeal.defs _ _).mono (fun _ h c => ⟨(h.1 c).1.trans (Cert.Take.resOf_eq (F := Bits) _ _), (h.1 c).2⟩)
      (Cert.KernelIdeal.Gather.run_main (F := Bits) m ρ hx)
  · refine (θ_run Cert.Reference.defs _ _).mono (fun _ h c => ⟨(h c).1.trans ?_, (h c).2⟩)
      (Cert.Reference.Value.run (F := Bits) m' ρ')
    rw [(hagree c).1, (hagree c).2]
    exact Cert.Take.refOf_eq (F := Bits) _ _ (hx c)

theorem claim : Cert.Claim :=
  ⟨Cert.Kernel.Gen.facts, Cert.KernelIdeal.Gen.facts, Cert.ReferenceIdeal.Gen.facts, Cert.Reference.Gen.facts, Cert.Pre_in_range.Gen.facts,
    frame_kernel, frame_ideal, frame_refIdeal, frame_refIdeal_pre, frame_ref, trivial, algebraic, bitexact⟩

end Cert.Proof

end
